-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S4x1024x512 : Shape := ⟨3, ![4, 1024, 512]⟩
abbrev S4 : Shape := ⟨1, ![4]⟩
abbrev S_ : Shape := ⟨0, ![]⟩
abbrev S1024x512 : Shape := ⟨2, ![1024, 512]⟩
abbrev S1x1024x512 : Shape := ⟨3, ![1, 1024, 512]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S4096x1024, .bf16⟩
  | .local _ .vmem, ⟨1, _⟩ => ⟨S1024x1024, .bf16⟩
  | .local _ .vmem, ⟨2, _⟩ => ⟨S4096x1024, .f32⟩
  | .local _ .vmem, ⟨3, _⟩ => ⟨S1024x1024, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x1024x512, .bf16⟩
  | .local _ .vmem, ⟨7, _⟩ => ⟨S4x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let c4_i32_20 : BitVec 32 := 4#32
  let c0_i32_21 : BitVec 32 := 0#32
  let v31 : BitVec 1 := Scalar.cmpi .eq c4_i32_20 c0_i32_21
  let c1_i32_22 : BitVec 32 := 1#32
  let v32 : BitVec 32 := Scalar.select v31 c1_i32_22 c4_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let v42 : Index := Scalar.indexCast v41
  let c0 : Index := 0#32
  ![v42.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v48 : BitVec 32 := Scalar.addi v2 c1_i32_29
  let c4_i32_30 : BitVec 32 := 4#32
  let c0_i32_31 : BitVec 32 := 0#32
  let v49 : BitVec 1 := Scalar.cmpi .eq c4_i32_30 c0_i32_31
  let c1_i32_32 : BitVec 32 := 1#32
  let v50 : BitVec 32 := Scalar.select v49 c1_i32_32 c4_i32_30
  let v51 : BitVec 32 := Scalar.remsi v48 v50
  let c0_i32_34 : BitVec 32 := 0#32
  let v53 : BitVec 1 := Scalar.cmpi .slt v51 c0_i32_34
  let c0_i32_35 : BitVec 32 := 0#32
  let v54 : BitVec 1 := Scalar.cmpi .slt v50 c0_i32_35
  let v55 : BitVec 1 := Scalar.xori v53 v54
  let c0_i32_33 : BitVec 32 := 0#32
  let v52 : BitVec 1 := Scalar.cmpi .ne v51 c0_i32_33
  let v56 : BitVec 1 := Scalar.andi v55 v52
  let v57 : BitVec 32 := Scalar.addi v51 v50
  let v58 : BitVec 32 := Scalar.select v56 v57 v51
  let c1024_i32_36 : BitVec 32 := 1024#32
  let v59 : BitVec 32 := Scalar.muli v58 c1024_i32_36
  let v60 : Index := Scalar.indexCast v59
  let c512 : Index := 512#32
  ![v60.toNat, 512]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_44 : BitVec 32 := 1#32
  let v66 : BitVec 32 := Scalar.muli v24 c1_i32_44
  let v67 : BitVec 32 := Scalar.addi c0_i32_45 v66
  v67.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_54 : BitVec 32 := 1#32
  let v76 : BitVec 32 := Scalar.muli v13 c1_i32_54
  let v77 : BitVec 32 := Scalar.addi c0_i32_55 v76
  v77.toNat
def k0_off3 (d0 : Dev nD) (c2_i32_76 : BitVec 32) (c0_i32_77 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v101 : BitVec 32 := Scalar.subi v2 c2_i32_76
  let v102 : BitVec 32 := Scalar.subi v101 c0_i32_77
  let c4_i32_78 : BitVec 32 := 4#32
  let c0_i32_79 : BitVec 32 := 0#32
  let v103 : BitVec 1 := Scalar.cmpi .eq c4_i32_78 c0_i32_79
  let c1_i32_80 : BitVec 32 := 1#32
  let v104 : BitVec 32 := Scalar.select v103 c1_i32_80 c4_i32_78
  let v105 : BitVec 32 := Scalar.remsi v102 v104
  let c0_i32_82 : BitVec 32 := 0#32
  let v107 : BitVec 1 := Scalar.cmpi .slt v105 c0_i32_82
  let c0_i32_83 : BitVec 32 := 0#32
  let v108 : BitVec 1 := Scalar.cmpi .slt v104 c0_i32_83
  let v109 : BitVec 1 := Scalar.xori v107 v108
  let c0_i32_81 : BitVec 32 := 0#32
  let v106 : BitVec 1 := Scalar.cmpi .ne v105 c0_i32_81
  let v110 : BitVec 1 := Scalar.andi v109 v106
  let v111 : BitVec 32 := Scalar.addi v105 v104
  let v112 : BitVec 32 := Scalar.select v110 v111 v105
  let c1024_i32_84 : BitVec 32 := 1024#32
  let v113 : BitVec 32 := Scalar.muli v112 c1024_i32_84
  let v114 : Index := Scalar.indexCast v113
  let c0_85 : Index := 0#32
  ![v114.toNat, 0]
def k0_off3_at (r : Fin 5) : BitVec 32 × BitVec 32 :=
  if r.val < 2 then
    if r.val < 1 then
      (2#32, 0#32)
    else
      (2#32, 1#32)
  else
    if r.val < 3 then
      (1#32, 0#32)
    else
      if r.val < 4 then
        (1#32, 1#32)
      else
        (1#32, 2#32)
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_93 : BitVec 32 := 1#32
  let v121 : BitVec 32 := Scalar.muli v24 c1_i32_93
  let v122 : BitVec 32 := Scalar.addi c0_i32_94 v121
  v122.toNat
def k0_off4 (d0 : Dev nD) (c2_i32_112 : BitVec 32) (c0_i32_113 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v141 : BitVec 32 := Scalar.addi v2 c2_i32_112
  let v142 : BitVec 32 := Scalar.addi v141 c0_i32_113
  let c4_i32_114 : BitVec 32 := 4#32
  let c0_i32_115 : BitVec 32 := 0#32
  let v143 : BitVec 1 := Scalar.cmpi .eq c4_i32_114 c0_i32_115
  let c1_i32_116 : BitVec 32 := 1#32
  let v144 : BitVec 32 := Scalar.select v143 c1_i32_116 c4_i32_114
  let v145 : BitVec 32 := Scalar.remsi v142 v144
  let c0_i32_118 : BitVec 32 := 0#32
  let v147 : BitVec 1 := Scalar.cmpi .slt v145 c0_i32_118
  let c0_i32_119 : BitVec 32 := 0#32
  let v148 : BitVec 1 := Scalar.cmpi .slt v144 c0_i32_119
  let v149 : BitVec 1 := Scalar.xori v147 v148
  let c0_i32_117 : BitVec 32 := 0#32
  let v146 : BitVec 1 := Scalar.cmpi .ne v145 c0_i32_117
  let v150 : BitVec 1 := Scalar.andi v149 v146
  let v151 : BitVec 32 := Scalar.addi v145 v144
  let v152 : BitVec 32 := Scalar.select v150 v151 v145
  let c1024_i32_120 : BitVec 32 := 1024#32
  let v153 : BitVec 32 := Scalar.muli v152 c1024_i32_120
  let v154 : Index := Scalar.indexCast v153
  let c512_121 : Index := 512#32
  ![v154.toNat, 512]
def k0_off4_at (r : Fin 5) : BitVec 32 × BitVec 32 :=
  if r.val < 2 then
    if r.val < 1 then
      (2#32, 0#32)
    else
      (2#32, 1#32)
  else
    if r.val < 3 then
      (1#32, 0#32)
    else
      if r.val < 4 then
        (1#32, 1#32)
      else
        (1#32, 2#32)
def k0_dev6 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_129 : BitVec 32 := 1#32
  let v161 : BitVec 32 := Scalar.muli v13 c1_i32_129
  let v162 : BitVec 32 := Scalar.addi c0_i32_130 v161
  v162.toNat
def k0_dev7 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_163 : BitVec 32 := 1#32
  let v201 : BitVec 32 := Scalar.muli v24 c1_i32_163
  let v202 : BitVec 32 := Scalar.addi c0_i32_164 v201
  v202.toNat
def k0_dev8 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_199 : BitVec 32 := 1#32
  let v241 : BitVec 32 := Scalar.muli v13 c1_i32_199
  let v242 : BitVec 32 := Scalar.addi c0_i32_200 v241
  v242.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_227 : BitVec 32 := 1024#32
  let v269 : BitVec 32 := Scalar.muli v2 c1024_i32_227
  let v270 : Index := Scalar.indexCast v269
  let c0_228 : Index := 0#32
  ![v270.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_232 : BitVec 32 := 1024#32
  let v276 : BitVec 32 := Scalar.muli v2 c1024_i32_232
  let v277 : Index := Scalar.indexCast v276
  let c512_233 : Index := 512#32
  ![v277.toNat, 512]
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_243 : BitVec 32 := 1#32
  let v288 : BitVec 32 := Scalar.muli v24 c1_i32_243
  let v289 : BitVec 32 := Scalar.addi c0_i32_244 v288
  v289.toNat
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_259 : BitVec 32 := 1#32
  let v304 : BitVec 32 := Scalar.muli v13 c1_i32_259
  let v305 : BitVec 32 := Scalar.addi c0_i32_260 v304
  v305.toNat
def k0_dev11 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_283 : BitVec 32 := 1#32
  let v328 : BitVec 32 := Scalar.muli v24 c1_i32_283
  let v329 : BitVec 32 := Scalar.addi c0_i32_284 v328
  v329.toNat
def k0_dev12 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_316 : BitVec 32 := 1#32
  let v364 : BitVec 32 := Scalar.muli v13 c1_i32_316
  let v365 : BitVec 32 := Scalar.addi c0_i32_317 v364
  v365.toNat
def k0_dev13 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_349 : BitVec 32 := 1#32
  let v400 : BitVec 32 := Scalar.muli v24 c1_i32_349
  let v401 : BitVec 32 := Scalar.addi c0_i32_350 v400
  v401.toNat
def k0_dev14 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_382 : BitVec 32 := 1#32
  let v436 : BitVec 32 := Scalar.muli v13 c1_i32_382
  let v437 : BitVec 32 := Scalar.addi c0_i32_383 v436
  v437.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x1024 : Shape := ⟨2, ![16384, 1024]⟩
abbrev S1024x1024 : Shape := ⟨2, ![1024, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S4x4096x1024, .f32⟩
  | .hbm, ⟨4, _⟩ => ⟨S_, .f32⟩
  | .hbm, ⟨5, _⟩ => ⟨S4096x1024, .f32⟩
  | .hbm, ⟨6, _⟩ => ⟨S1024x1024, .f32⟩
  | .hbm, ⟨7, _⟩ => ⟨S4096x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Proto.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

/-! # The protocol of the kernel: the ring, the transfers, the contents and the schedule

Every device makes TWELVE transfers, numbered in the order the body issues them: the even ones go to the next device of
the ring, the odd ones to the device before it; transfers 0 to 5 carry the partial sums (three hops each way), transfers
6 to 11 carry the products (three hops each way). Transfer `n` leaves slot `hop n` of buffer `lane n` and lands in
slot `hop n + 1` of the same buffer of the neighbour; no slot is ever the target of two transfers. A send semaphore and a
receive semaphore belong to each transfer, and the runtime's barrier semaphore is signalled once by each neighbour
before anything is sent. Everything here is stated for any float values `F`. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's copy of the rounds algebra, its duties named by a `Bool`; -/
abbrev UB : Type := URounds (GSem nD τ sig) Bool
/-- beside the pipeline library's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The step round the ring, as a permutation of the devices. -/
def ring : Dev nD ≃ Dev nD := ⟨nxt, prv, prv_nxt, nxt_prv⟩

/-! ## The transfers -/

set_option backward.proofsInPublic true in
/-- The buffer a transfer reads and writes: 0 and 1 for the partial sums, 2 and 3 for the products. -/
def lane (n : Fin 12) : Fin 4 := ⟨2 * (n.val / 6) + n.val % 2, by omega⟩
set_option backward.proofsInPublic true in
/-- The slot a transfer leaves. -/
def hop (n : Fin 12) : Fin 4 := ⟨n.val % 6 / 2, by omega⟩
set_option backward.proofsInPublic true in
/-- The slot it lands in. -/
def hop' (n : Fin 12) : Fin 4 := ⟨n.val % 6 / 2 + 1, by omega⟩

/-- The permutation of the devices that transfer `n` follows: device `c` sends to `way n c`. -/
def way (n : Fin 12) : Dev nD ≃ Dev nD := if n.val % 2 = 0 then ring else ring.symm

/-! ## The cells -/

set_option backward.proofsInPublic true in
/-- The kernel's own DMA semaphores: 32 of them, after the three of the staging buffers. -/
def dsem (k : Fin 32) : DmaSem sig := ⟨3 + k.val, by have := k.isLt; show 3 + k.val < 35; omega⟩
set_option backward.proofsInPublic true in
/-- The send semaphore of transfer `n` among them, -/
def sIx (n : Fin 12) : Fin 32 := ⟨8 * (2 * (n.val / 6) + n.val % 2) + n.val % 6 / 2, by omega⟩
set_option backward.proofsInPublic true in
/-- and its receive semaphore. -/
def rIx (n : Fin 12) : Fin 32 := ⟨8 * (2 * (n.val / 6) + n.val % 2) + n.val % 6 / 2 + 5, by omega⟩

theorem sIx_inj : Function.Injective sIx := by decide
theorem rIx_inj : Function.Injective rIx := by decide

/-- The runtime's barrier semaphore. -/
abbrev barS : Sem sig := (SemArray.scalar (sig.barrier 0 rfl) : Sems sig S_).sem

/-- The semaphores of the protocol: the barrier, and the kernel's own. -/
def csem : Option (Fin 32) → SemLoc sig
  | none => .reg barS
  | some k => .dma (dsem k)
abbrev kcell (ck : Dev nD × Option (Fin 32)) : GSem nD τ sig := ((ck.1 : Thread nD τ), csem ck.2)

abbrev barCell (c : Dev nD) : GSem nD τ sig := ((c : Thread nD τ), .reg barS)
abbrev sCell (c : Dev nD) (n : Fin 12) : GSem nD τ sig := ((c : Thread nD τ), .dma (dsem (sIx n)))
abbrev rCell (c : Dev nD) (n : Fin 12) : GSem nD τ sig := ((c : Thread nD τ), .dma (dsem (rIx n)))

/-- What a DMA semaphore is for: the sending (`true`) or the receiving (`false`) of a transfer, or nothing. -/
def role (q : DmaSem sig) : Option (Bool × Fin 12) :=
  (List.finRange 12).findSome? fun n => if q = dsem (sIx n) then some (true, n) else if q = dsem (rIx n) then some (false, n) else none

theorem role_s : ∀ n, role (dsem (sIx n)) = some (true, n) := by decide +kernel
theorem role_r : ∀ n, role (dsem (rIx n)) = some (false, n) := by decide +kernel
theorem role_stage : ∀ q : Fin 3, role (⟨q.val, by show q.val < 35; omega⟩ : DmaSem sig) = none := by decide +kernel

/-! ## The slots -/

/-- The four buffers the transfers use. -/
def bufM : Fin 4 → Memref sig .tc .vmem S4x1024x512 .bf16
  | 0 => Memref.whole cc0_scratch1
  | 1 => Memref.whole cc0_scratch2
  | 2 => Memref.whole cc0_scratch3
  | 3 => Memref.whole cc0_scratch4

theorem slot_inb : ∀ s : Fin 4, ∀ a, (![s.val, 0, 0] : Fin 3 → ℕ) a + S1x1024x512.size a ≤ S4x1024x512.size a := by decide +kernel

/-- The rectangle of slot `s` of a buffer. -/
abbrev slotR (s : Fin 4) : Rect S4x1024x512 := Rect.unit (s := S4x1024x512) ![s.val, 0, 0] S1x1024x512.size (slot_inb s)

/-- Slot `s` of buffer `l`, as a transfer names it. -/
abbrev slotM (l s : Fin 4) : Memref sig .tc .vmem S1024x512 .bf16 :=
  ((bufM l).slice (slotR s) (fun _ => rfl)).squeeze S1024x512 squeezes_S1x1024x512_S1024x512

/-- The units one transfer credits. -/
abbrev N : ℕ := (slotM 0 0).view.dmaCredit
theorem N_pos : 0 < N := View.dmaCredit_pos _ (by decide)
theorem N_eq : ∀ l s : Fin 4, (slotM l s).view.dmaCredit = N := by
  intro l s; fin_cases l <;> rfl

/-- Device `c` owns share `q` of slot `s` of its buffer `l`, holding `X`. -/
def slot (c : Dev nD) (l s : Fin 4) (q : PosShare TreeShare) (X : S1024x512.Idx → Elt F .bf16) : sProp 𝕄 :=
  ownsTc c (slotM l s) q X
/-- The slot at some contents. -/
def slotAny (c : Dev nD) (l s : Fin 4) : sProp 𝕄 := iprop(∃ X, slot (F := F) c l s fullShare X)

omit [FloatOps F] in
instance slot_storable (c : Dev nD) (l s : Fin 4) (q) (X) : BI.Storable (upEmb : UEmb _ 𝕄) (slot (F := F) c l s q X) := by unfold slot; infer_instance
omit [FloatOps F] in
instance slotAny_storable (c : Dev nD) (l s : Fin 4) : BI.Storable (upEmb : UEmb _ 𝕄) (slotAny (F := F) c l s) := by unfold slotAny; infer_instance

/-! ## The contents -/

abbrev tM : Memref sig .tc .vmem S4096x1024 .bf16 := Memref.whole cc0_stg0_0
abbrev wM : Memref sig .tc .vmem S1024x1024 .bf16 := Memref.whole cc0_stg1_0
abbrev oM : Memref sig .tc .vmem S4096x1024 .f32 := Memref.whole cc0_stg2_0
abbrev bM : Memref sig .tc .vmem S1024x1024 .bf16 := Memref.whole cc0_scratch0

/-- Device `c`'s block of `t` and its `W`, as staged. -/
def ts (c : Dev nD) : (cc0_stg0_0 : Ref sig .tc).ty.Contents (Elt F) :=
  (win0_0.blk (0 : Fin 1)).view.read (Elt F) ((s₀ m ρ).mem ((c : Thread nD τ).loc main_arg0))
def ws (c : Dev nD) : (cc0_stg1_0 : Ref sig .tc).ty.Contents (Elt F) :=
  (win0_1.blk (0 : Fin 1)).view.read (Elt F) ((s₀ m ρ).mem ((c : Thread nD τ).loc main_arg1))

/-- What a load of a 1024×512 block of `t` reads; -/
abbrev tld (c : Dev nD) (off : Fin 2 → ℕ) (h : ∀ a, off a + S1024x512.size a ≤ S4096x1024.size a) : Vec F S1024x512 .bf16 :=
  (tM : Memref sig .tc .vmem S4096x1024 .bf16).view.readAt (Elt F) (Rect.unit (s := S4096x1024) off S1024x512.size h).toLoadRect (ts m ρ c)
/-- what the copy of `W` holds, -/
abbrev wb (c : Dev nD) : (cc0_scratch0 : Ref sig .tc).ty.Contents (Elt F) := k0_pay3 (ws m ρ c)
/-- and what a load of half of its columns reads. -/
abbrev wld (c : Dev nD) (off : Fin 2 → ℕ) (h : ∀ a, off a + S1024x512.size a ≤ S1024x1024.size a) : Vec F S1024x512 .bf16 :=
  (bM : Memref sig .tc .vmem S1024x1024 .bf16).view.readAt (Elt F) (Rect.unit (s := S1024x1024) off S1024x512.size h).toLoadRect (wb m ρ c)

/-- A slot's contents as a load of the slot reads them, and back. -/
abbrev usq (X : S1024x512.Idx → Elt F .bf16) : Vec F S1x1024x512 .bf16 := shapeCast S1x1024x512 X shapeCasts_S1024x512_S1x1024x512
abbrev sq (X : S1x1024x512.Idx → Elt F .bf16) : Vec F S1024x512 .bf16 := shapeCast S1024x512 X shapeCasts_S1x1024x512_S1024x512

/-- The partial sums device `c` sends forwards, hop by hop; -/
def A0 (c : Dev nD) : Vec F S1024x512 .bf16 := sq (k0_pay1 (tld m ρ c (k0_off1 c) (k0_off1_inb c)))
def A1 (c : Dev nD) : Vec F S1024x512 .bf16 := sq (k0_pay4 (usq (A0 m ρ (prv c))) (tld m ρ c (k0_off3 c 2#32 0#32) (k0_off3_inb c 0)))
def A2 (c : Dev nD) : Vec F S1024x512 .bf16 := sq (k0_pay8 (k0_pay7 (usq (A1 m ρ (prv c)))) (tld m ρ c (k0_off3 c 2#32 1#32) (k0_off3_inb c 1)))
/-- the ones it sends backwards. -/
def B0 (c : Dev nD) : Vec F S1024x512 .bf16 := sq (k0_pay2 (tld m ρ c (k0_off2 c) (k0_off2_inb c)))
def B1 (c : Dev nD) : Vec F S1024x512 .bf16 := sq (k0_pay6 (k0_pay5 (usq (B0 m ρ (nxt c)))) (tld m ρ c (k0_off4 c 2#32 0#32) (k0_off4_inb c 0)))
def B2 (c : Dev nD) : Vec F S1024x512 .bf16 := sq (k0_pay9 (usq (B1 m ρ (nxt c))) (tld m ρ c (k0_off4 c 2#32 1#32) (k0_off4_inb c 1)))
/-- The left half of device `c`'s reduced block, -/
abbrev redL (c : Dev nD) : FVec F S1024x512 .bf16 := k0_pay10 (usq (A2 m ρ (prv c))) (tld m ρ c (k0_off5 c) (k0_off5_inb c))
/-- the halves of its product with `W`, -/
def resL (c : Dev nD) : FVec F S1024x512 .f32 :=
  k0_pay12 (redL m ρ c) (usq (B2 m ρ (nxt c))) (tld m ρ c (k0_off6 c) (k0_off6_inb c)) (wld m ρ c ![0, 0] inb_S1024x1024_S1024x512_0_0)
def resR (c : Dev nD) : FVec F S1024x512 .f32 :=
  k0_pay14 (redL m ρ c) (usq (B2 m ρ (nxt c))) (tld m ρ c (k0_off6 c) (k0_off6_inb c)) (wld m ρ c ![0, 512] inb_S1024x1024_S1024x512_0_512)
/-- and those halves as they are sent. -/
def C0 (c : Dev nD) : Vec F S1024x512 .bf16 :=
  sq (k0_pay13 (redL m ρ c) (usq (B2 m ρ (nxt c))) (tld m ρ c (k0_off6 c) (k0_off6_inb c)) (wld m ρ c ![0, 0] inb_S1024x1024_S1024x512_0_0))
def D0 (c : Dev nD) : Vec F S1024x512 .bf16 :=
  sq (k0_pay15 (redL m ρ c) (usq (B2 m ρ (nxt c))) (tld m ρ c (k0_off6 c) (k0_off6_inb c)) (wld m ρ c ![0, 512] inb_S1024x1024_S1024x512_0_512))

/-- What transfer `n` of device `c` carries. -/
def snd : Fin 12 → Dev nD → Vec F S1024x512 .bf16
  | 0, c => A0 m ρ c | 1, c => B0 m ρ c | 2, c => A1 m ρ c | 3, c => B1 m ρ c | 4, c => A2 m ρ c | 5, c => B2 m ρ c
  | 6, c => C0 m ρ c | 7, c => D0 m ρ c | 8, c => C0 m ρ (prv c) | 9, c => D0 m ρ (nxt c)
  | 10, c => C0 m ρ (prv (prv c)) | 11, c => D0 m ρ (nxt (nxt c))

/-! ## The schedule -/

/-- The slots a neighbour hands over at the barrier: the targets of the transfers with numbers of one parity. -/
def barPay (d : Bool) (c : Dev nD) : sProp 𝕄 :=
  if d then iprop(slotAny (F := F) (nxt c) 0 1 ∗ slotAny (F := F) (nxt c) 0 2 ∗ slotAny (F := F) (nxt c) 0 3
      ∗ slotAny (F := F) (nxt c) 2 1 ∗ slotAny (F := F) (nxt c) 2 2 ∗ slotAny (F := F) (nxt c) 2 3)
  else iprop(slotAny (F := F) (prv c) 1 1 ∗ slotAny (F := F) (prv c) 1 2 ∗ slotAny (F := F) (prv c) 1 3
      ∗ slotAny (F := F) (prv c) 3 1 ∗ slotAny (F := F) (prv c) 3 2 ∗ slotAny (F := F) (prv c) 3 3)
/-- A send hands back the half of its source it was given, -/
def sendPay (n : Fin 12) (c : Dev nD) : sProp 𝕄 := slot c (lane n) (hop n) fullShare.left (snd m ρ n c)
/-- and a receive hands over the slot, holding what the neighbour sent. -/
def recvPay (n : Fin 12) (c : Dev nD) : sProp 𝕄 := slot c (lane n) (hop' n) fullShare (snd m ρ n ((way n).symm c))

/-- A DMA cell's payload, by what its semaphore is for. -/
def dmaPay (c : Dev nD) : Option (Bool × Fin 12) → sProp 𝕄
  | none => iprop(emp)
  | some (true, n) => sendPay m ρ n c
  | some (false, n) => recvPay m ρ n c

def dutiesAt : SemLoc sig → Finset Bool
  | .reg _ => Finset.univ
  | .dma q => if (role q).isSome then {false} else ∅
def amountAt : SemLoc sig → ℕ
  | .reg _ => 1
  | .dma _ => N
def payAt (c : Dev nD) (d : Bool) : SemLoc sig → sProp 𝕄
  | .reg _ => barPay d c
  | .dma q => dmaPay m ρ c (role q)

/-- One round: a barrier cell has two duties of one unit, `true` paid by the next device and `false` by the one before;
    each transfer's cells have one duty of the transfer's units; the semaphores no transfer uses have none. -/
def Rd : Rounds.Schedule (GSem nD τ sig) Bool 𝕄 where
  duties g r := if r = 0 ∧ g.1.2 = .tc then dutiesAt g.2 else ∅
  unitless _ := False
  amount g _ _ := amountAt g.2
  payload g _ d := payAt m ρ g.1.1 d g.2
  amount_pos g _ _ _ := by
    rcases g with ⟨g1, sm⟩
    cases sm
    · exact Nat.one_pos
    · exact N_pos

omit [FloatOps F] in
instance barPay_storable (d : Bool) (c : Dev nD) : BI.Storable (upEmb : UEmb _ 𝕄) (barPay (F := F) d c) := by
  unfold barPay; split <;> infer_instance

instance Rd_payload_storable (g : GSem nD τ sig) (r : ℕ) (d : Bool) : BI.Storable (upEmb : UEmb _ 𝕄) ((Rd (F := F) m ρ).payload g r d) := by
  show BI.Storable upEmb (payAt m ρ g.1.1 d g.2)
  rcases g with ⟨g1, sm⟩
  rcases sm with s | q
  · unfold payAt; infer_instance
  · unfold payAt dmaPay sendPay recvPay
    dsimp only
    rcases role q with _ | ⟨b, n⟩
    · infer_instance
    · cases b <;> infer_instance

section Sched
variable (c : Dev nD) (n : Fin 12)

theorem duties_at (sm : SemLoc sig) : (Rd (F := F) m ρ).duties ((c : Thread nD τ), sm) 0 = dutiesAt sm := by
  show (if (0 : ℕ) = 0 ∧ (c : Thread nD τ).2 = .tc then dutiesAt sm else ∅) = _
  exact if_pos ⟨rfl, rfl⟩
theorem duties_bar : (Rd (F := F) m ρ).duties (barCell c) 0 = Finset.univ := duties_at m ρ c _
theorem duties_s : (Rd (F := F) m ρ).duties (sCell c n) 0 = {false} := by
  refine (duties_at m ρ c _).trans ?_
  show (if (role (dsem (sIx n))).isSome then {false} else ∅) = _
  rw [role_s]; rfl
theorem duties_r : (Rd (F := F) m ρ).duties (rCell c n) 0 = {false} := by
  refine (duties_at m ρ c _).trans ?_
  show (if (role (dsem (rIx n))).isSome then {false} else ∅) = _
  rw [role_r]; rfl
theorem duties_later (g : GSem nD τ sig) : ∀ r, 0 + 1 ≤ r → (Rd (F := F) m ρ).duties g r = ∅ :=
  fun r hr => if_neg fun h => by omega
theorem duties_none {q : DmaSem sig} (h : role q = none) : ∀ r, 0 ≤ r → (Rd (F := F) m ρ).duties ((c : Thread nD τ), .dma q) r = ∅ := by
  intro r _
  show (if _ then (if (role q).isSome then {false} else ∅) else ∅) = _
  rw [h]; split <;> rfl

theorem payload_s (d : Bool) : (Rd (F := F) m ρ).payload (sCell c n) 0 d = sendPay m ρ n c := by
  show dmaPay m ρ c (role (dsem (sIx n))) = _
  rw [role_s]; rfl
theorem payload_r (d : Bool) : (Rd (F := F) m ρ).payload (rCell c n) 0 d = recvPay m ρ n c := by
  show dmaPay m ρ c (role (dsem (rIx n))) = _
  rw [role_r]; rfl
theorem payload_bar (d : Bool) : (Rd (F := F) m ρ).payload (barCell c) 0 d = barPay d c := rfl

theorem expect_bar : (Rd (F := F) m ρ).expect (barCell c) 0 = 2 := by
  unfold Schedule.expect Schedule.amountOf
  rw [duties_bar]; rfl
theorem expect_s : (Rd (F := F) m ρ).expect (sCell c n) 0 = N := by
  unfold Schedule.expect Schedule.amountOf; rw [duties_s, Finset.sum_singleton]; rfl
theorem expect_r : (Rd (F := F) m ρ).expect (rCell c n) 0 = N := by
  unfold Schedule.expect Schedule.amountOf; rw [duties_r, Finset.sum_singleton]; rfl

/-- What a wait on each cell hands over. -/
theorem rest_bar : bigSep ((Rd (F := F) m ρ).duties (barCell c) 0 \ ∅) (fun d => (Rd (F := F) m ρ).payload (barCell c) 0 d)
    = iprop(barPay false c ∗ barPay true c) := by
  rw [Finset.sdiff_empty, duties_bar, bigSep_univ_eq_bigSepL [false, true] (by decide) (by decide), bigSepL_cons_cons, bigSepL_singleton]
  rfl
theorem rest_s : bigSep ((Rd (F := F) m ρ).duties (sCell c n) 0 \ ∅) (fun d => (Rd (F := F) m ρ).payload (sCell c n) 0 d) = sendPay m ρ n c := by
  rw [Finset.sdiff_empty, duties_s, bigSep_singleton, payload_s]
theorem rest_r : bigSep ((Rd (F := F) m ρ).duties (rCell c n) 0 \ ∅) (fun d => (Rd (F := F) m ρ).payload (rCell c n) 0 d) = recvPay m ρ n c := by
  rw [Finset.sdiff_empty, duties_r, bigSep_singleton, payload_r]

end Sched

/-! ## What each device owes, and the levels -/

/-- What device `c` still owes once its first `k` transfers are issued: the receive credit of the others. -/
def Os (c : Dev nD) (k : ℕ) : CellTallies nD τ sig Unit :=
  ∑ n ∈ Finset.univ.filter (fun n : Fin 12 => k ≤ n.val), tallyAt (rCell (way n c) n) () N

/-- The transfer issued next is the last summand. -/
theorem Os_step (c : Dev nD) (n : Fin 12) : Os c n.val = Os c (n.val + 1) + tallyAt (rCell (way n c) n) () N := by
  have h : Finset.univ.filter (fun j : Fin 12 => n.val ≤ j.val) = insert n (Finset.univ.filter fun j : Fin 12 => n.val + 1 ≤ j.val) := by
    ext j
    simp only [Finset.mem_filter, Finset.mem_univ, true_and, Finset.mem_insert]
    constructor
    · intro h
      by_cases e : j = n
      · exact Or.inl e
      · exact Or.inr (by have : j.val ≠ n.val := fun h' => e (Fin.ext h'); omega)
    · rintro (rfl | h) <;> omega
  unfold Os
  rw [h, Finset.sum_insert (by simp), add_comm]

theorem Os_end (c : Dev nD) : Os c 12 = 0 := by
  unfold Os
  rw [Finset.filter_false_of_mem (fun n _ => by have := n.isLt; omega), Finset.sum_empty]

theorem Os_apply (c : Dev nD) (k : ℕ) (g : GSem nD τ sig) (u : Unit) :
    Os c k g u = ∑ n ∈ Finset.univ.filter (fun n : Fin 12 => k ≤ n.val), tallyAt (rCell (way n c) n) () N g u := by
  unfold Os
  rw [Finset.sum_apply, Finsupp.finset_sum_apply]

theorem tallyAt_pos {g g' : GSem nD τ sig} {u : Unit} {k : ℕ} (h : 0 < tallyAt (Ix := Unit) g' () k g u) : g = g' := by
  rw [tallyAt_apply] at h
  by_contra hn
  rw [if_neg fun h' => hn h'.1] at h
  exact Nat.lt_irrefl 0 h

theorem Os_pos {c : Dev nD} {k : ℕ} {g : GSem nD τ sig} {u : Unit} (h : 0 < Os c k g u) : ∃ n : Fin 12, k ≤ n.val ∧ g = rCell (way n c) n := by
  rw [Os_apply] at h
  obtain ⟨n, hn, hp⟩ := Finset.exists_ne_zero_of_sum_ne_zero (Nat.pos_iff_ne_zero.mp h)
  exact ⟨n, (Finset.mem_filter.mp hn).2, tallyAt_pos (Nat.pos_of_ne_zero hp)⟩

/-- At launch a device owes all of that and a unit to the barrier of either neighbour. -/
def O₁ (c : Dev nD) : CellTallies nD τ sig Unit := Os c 0 + tallyAt (barCell (nxt c)) () 1
def O₀ (c : Dev nD) : CellTallies nD τ sig Unit := O₁ c + tallyAt (barCell (prv c)) () 1

theorem O₀_pos {c : Dev nD} {g : GSem nD τ sig} {u : Unit} (h : 0 < O₀ c g u) :
    (∃ n : Fin 12, g = rCell (way n c) n) ∨ g = barCell (nxt c) ∨ g = barCell (prv c) := by
  unfold O₀ O₁ at h
  rw [Pi.add_apply, Finsupp.add_apply, Pi.add_apply, Finsupp.add_apply] at h
  by_cases h1 : 0 < Os c 0 g u
  · exact Or.inl ((Os_pos h1).imp fun _ h => h.2)
  by_cases h2 : 0 < tallyAt (Ix := Unit) (barCell (nxt c)) () 1 g u
  · exact Or.inr (Or.inl (tallyAt_pos h2))
  · rw [Nat.eq_zero_of_not_pos h1, Nat.eq_zero_of_not_pos h2, zero_add, zero_add] at h
    exact Or.inr (Or.inr (tallyAt_pos h))

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The levels: the barrier below every receive cell, a receive cell the higher the later its transfer is issued; the
    send cells and the staging cells lowest. -/
def lvAt : SemLoc sig → ℕ
  | .reg _ => 1
  | .dma q => match role q with
    | some (false, n) => 2 + n.val
    | _ => 0
def lv (g : GSem nD τ sig) (_ : Unit) : ℕ := lvAt g.2
theorem lv_r (c : Dev nD) (n : Fin 12) (u : Unit) : lv (rCell c n) u = 2 + n.val := by
  show (match role (dsem (rIx n)) with | some (false, n) => 2 + n.val | _ => 0) = _
  rw [role_r]

omit [FloatOps F] in
/-- A device may wait on a cell whose level is below the receive cells it still owes. -/
theorem mayWait_at (c : Dev nD) (sm : SemLoc sig) (k : ℕ) (h : lvAt sm < 2 + k) : (levAts L lv : sProp 𝕄) ⊢ MayWait (c : Thread nD τ) sm () (Os c k) :=
  MayOwe.of_cut (L := L) (lev := lv) (lvAt sm) (fun p hp => by rw [Finset.mem_singleton.mp hp, L_tc]; exact Finset.mem_singleton_self _)
    (fun g u hg => by obtain ⟨n, _, rfl⟩ := Os_pos hg; rw [L_tc]; exact Finset.mem_singleton_self _)
    (fun p hp => by rw [Finset.mem_singleton.mp hp]; exact le_refl _)
    (fun g u hg => by obtain ⟨n, hn, rfl⟩ := Os_pos hg; rw [lv_r]; omega)

omit [FloatOps F] in
/-- The staging waits: below everything owed at launch. -/
theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, rfl⟩ | rfl | rfl <;> exact Finset.mem_singleton_self _)
      (fun p hp => by
        rw [Finset.mem_singleton.mp hp]
        show (match role q with | some (false, n) => 2 + n.val | _ => 0) ≤ 0
        rw [hq])
      (fun g u hg => by
        rcases O₀_pos hg with ⟨n, rfl⟩ | rfl | rfl
        · rw [lv_r]; omega
        · exact Nat.one_pos
        · exact Nat.one_pos)
  · rw [MayWait_zero]; iintro -; iempintro

end Cert.KProof

end
-- ==== Proof.Steps.lean ====
module

public import proofs.«01_k».proof.Proof.Proto
public import Idealize.ShloMosaic.Lib.Writes
public import Idealize.ShloMosaic.Lib.Pipeline.FrameBody

@[expose] public section
/-! # One rule per kind of effect the body makes

Each lemma says what a device needs for one effect of the kernel and what it has afterwards: the two barrier signals and
the barrier wait, the issue of transfer `n`, the wait for the landing of transfer `n`, the wait for the end of the sending
of transfer `n`, and the loads and stores of a slot, of the staged inputs, of the copy of `W` and of the result. All are
stated for any device, and the transfers' for any of the twelve. -/

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of the body on device `c`. -/
abbrev bodyWp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What never changes: every cell's invariant, and that every cell has reached round 0. -/
def records (K : Dev nD × Option (Fin 32) → ℕ) : sProp 𝕄 :=
  iprop((bigSep Finset.univ fun ck : Dev nD × Option (Fin 32) => cellInv ER (Rd m ρ) (K ck) (kcell ck))
    ∗ bigSep Finset.univ fun ck : Dev nD × Option (Fin 32) => reached ER (kcell ck) 0)

instance records_persistent (K : Dev nD × Option (Fin 32) → ℕ) : BI.Persistent (records m ρ K) := by unfold records; infer_instance

theorem inv_at (K : Dev nD × Option (Fin 32) → ℕ) (ck : Dev nD × Option (Fin 32)) : records m ρ K ⊢ cellInv ER (Rd m ρ) (K ck) (kcell ck) := by
  unfold records
  exact sep_elim_left.trans (bigSep_elim (Finset.mem_univ ck))
theorem reached_at (K : Dev nD × Option (Fin 32) → ℕ) (ck : Dev nD × Option (Fin 32)) : records m ρ K ⊢ reached ER (kcell ck) 0 := by
  unfold records
  exact sep_elim_right.trans (bigSep_elim (Finset.mem_univ ck))

/-- What a device owes, whatever its waits so far. -/
def ow (c : Dev nD) (O : CellTallies nD τ sig Unit) : sProp 𝕄 := iprop(∃ W, owes (c : Thread nD τ) O W)
/-- What issuing transfer `n` spends: both duties' tokens and the position on the send cell. -/
def tk (c : Dev nD) (n : Fin 12) : sProp 𝕄 :=
  iprop(dutyTok ER (sCell c n) 0 false ∗ dutyTok ER (rCell (way n c) n) 0 false ∗ atPos ER (sCell c n) 0 ∅ 0)
/-- What the wait for the end of its sending spends. -/
def sw (c : Dev nD) (n : Fin 12) : sProp 𝕄 := iprop(atPos ER (sCell c n) 0 ∅ 0 ∗ cred (tallyAt (sCell c n) () N))
/-- What the wait for its landing spends. -/
def vk (c : Dev nD) (n : Fin 12) : sProp 𝕄 := iprop(atPos ER (rCell c n) 0 ∅ 0 ∗ cred (tallyAt (rCell c n) () N))

section Steps

variable (K : Dev nD × Option (Fin 32) → ℕ) (c : Dev nD)
variable {α : Type}

/-! ## The transfers -/

/-- Device `c` issues transfer `n`: half of the source slot goes along, the target slot is given up, the debt is paid. -/
theorem send_step (n : Fin 12) (l s s' : Fin 4) (X : S1024x512.Idx → Elt F .bf16) (d : Dev nD) (i i' : ℕ)
    (hl : lane n = l) (hh : hop n = s) (hh' : hop' n = s') (hX : snd m ρ n c = X) (hd : way n c = d) (hi : n.val = i) (hi' : i + 1 = i')
    {sS rS : DmaSem sig} {d' : Dev nD} (hsS : sS = dsem (sIx n)) (hrS : rS = dsem (rIx n)) (hd' : d' = d)
    {hsc : (slotM l s' : Memref sig (Dev.tc d' : Thread nD τ).2.kind .vmem S1024x512 .bf16).view.ref.isScScratch = false}
    {hw₁ : (slotM l s).view.WordExact} {hw₂ : (slotM l s').view.WordExact}
    {hty : DmaTarget.Typed .vmem (.dma rS) (.remote (Dev.tc d' : Thread nD τ) (slotM l s' : Memref sig (Dev.tc d' : Thread nD τ).2.kind .vmem S1024x512 .bf16) (.dma sS) hsc)}
    {k : PUnit → Prog (TpuEff nD τ sig (Elt F) Λ₀ .tc) α} {Q : α → sProp 𝕄} :
    iprop(records m ρ K ∗ slot c l s fullShare X ∗ slotAny d l s' ∗ tk c n ∗ ow c (Os c i))
      ⊢ iprop(((slot c l s fullShare.right X ∗ sw c n ∗ ow c (Os c i')) -∗ bodyWp c (k ⟨⟩) Q)
          -∗ bodyWp c (.op (.enqueueDma (slotM l s) (.remote (Dev.tc d' : Thread nD τ) (slotM l s') (.dma sS) hsc) (.dma rS) hw₁ hw₂ hty) k) Q) := by
  subst hl hh hh' hX hd hi hi' hsS hrS hd'
  iintro ⟨#HR, Hs, Hd, Ht, HO⟩ Hk
  unfold slotAny slot ownsTc
  ihave Hh := (owns_halves (c : Thread nD τ) (slotM (lane n) (hop n)) fullShare (snd m ρ n c)).1 $$ Hs
  icases Hh with ⟨Hl, Hr⟩
  unfold tk ow sw
  icases Ht with ⟨Ht1, Ht2, Hat⟩
  icases HO with ⟨%W, HO⟩
  ihave #HIs := (inv_at m ρ K (c, some (sIx n))) $$ HR
  ihave #HIr := (inv_at m ρ K (way n c, some (rIx n))) $$ HR
  ihave #HRs := (reached_at m ρ K (c, some (sIx n))) $$ HR
  ihave #HRr := (reached_at m ρ K (way n c, some (rIx n))) $$ HR
  unfold owns
  icases Hl with ⟨%fs, %hfs, Hl⟩
  icases Hd with ⟨%Y, %fd, -, Hd⟩
  iapply (Rounds.wp_send_pointsTo 𝒱₀ ER (Rd m ρ) (c : Thread nD τ) none (κ₁ := K (c, some (sIx n))) (κ₂ := K (way n c, some (rIx n)))
      (r₁ := 0) (r₂ := 0) (d₁ := false) (d₂ := false) (fs := fs) (fd := fd)
      (by rw [duties_s]; exact Finset.mem_singleton_self _) (by rw [duties_r]; exact Finset.mem_singleton_self _)
      () () N (show (slotM (lane n) (hop' n)).view.amount (.dma (dsem (rIx n))) = N from N_eq _ _) rfl rfl (Os c (n.val + 1)) (Os_step c n) (W := W)
      (by
        rw [payload_s]; unfold sendPay slot ownsTc
        rw [← hfs]; exact owns_intro _ _ _ _)
      (by
        rw [payload_r]; unfold recvPay slot ownsTc
        refine (owns_intro (way n c : Thread nD τ) (slotM (lane n) (hop' n)) fullShare _).trans ?_
        rw [View.read_write_univ, hfs, Equiv.symm_apply_apply])) $$ [Hl Hd HO Ht1 Ht2]
  · isplitr; · iexact HIs
    isplitr; · iexact HIr
    isplitl [Hl]; · iexact Hl
    isplitl [Hd]; · iexact Hd
    isplitl [HO]; · iexact HO
    isplitl [Ht1]; · iexact Ht1
    isplitr; · iexact HRs
    isplitl [Ht2]; · iexact Ht2
    iexact HRr
  iintro ⟨Hc, HO⟩
  iapply Hk
  isplitl [Hr]; · iexact Hr
  isplitl [Hat Hc]
  · isplitl [Hat]; · iexact Hat
    iexact Hc
  iexists W; iexact HO

/-- Device `c` waits for the landing of transfer `n`, sent by its neighbour: the slot is its own again, holding what was sent. -/
theorem recv_step (n : Fin 12) (l s s' : Fin 4) (P : sProp 𝕄) (i : ℕ) (hP : recvPay m ρ n c = P) (hi : n.val < i)
    {q : DmaSem sig} (hq : q = dsem (rIx n)) {hw₁ : (slotM l s).view.WordExact} {hw₂ : (slotM l s').view.WordExact} {k : PUnit → Prog (TpuEff nD τ sig (Elt F) Λ₀ .tc) α} {Q : α → sProp 𝕄} :
    iprop(records m ρ K ∗ levAts L lv ∗ vk c n ∗ ow c (Os c i))
      ⊢ iprop(((P ∗ semVal (rCell c n) 0 ∗ ow c (Os c i)) -∗ bodyWp c (k ⟨⟩) Q)
          -∗ bodyWp c (.op (.waitDma2 q (slotM l s) (slotM l s') hw₁ hw₂) k) Q) := by
  subst hP hq
  iintro ⟨#HR, #Hlev, Hv, HO⟩ Hk
  unfold vk ow
  icases Hv with ⟨Hat, Hc⟩
  icases HO with ⟨%W, HO⟩
  ihave #HI := (inv_at m ρ K (c, some (rIx n))) $$ HR
  iapply (Rounds.wp_wait_rest_token 𝒱₀ ER (Rd m ρ) (c : Thread nD τ) none (κ := K (c, some (rIx n)))
      (wpE_waitDma2_eq 𝒱₀ (c : Thread nD τ) none Set.univ) (Set.mem_univ _) () (O := Os c i) (W := W) (R := 0) (m := 0) (T := ∅)
      (by rw [Nat.zero_add, expect_r, N_eq])) $$ [Hc HO Hat]
  · isplitr; · iexact HI
    isplitl [Hc]; · rw [N_eq]; iexact Hc
    isplitl [HO]; · iexact HO
    isplitr
    · iapply (mayWait_at (F := F) c (.dma (dsem (rIx n))) i (by rw [show lvAt (.dma (dsem (rIx n))) = 2 + n.val from lv_r c n ()]; omega)); iexact Hlev
    iexact Hat
  iintro ⟨HO, Hat, -, Hpay⟩
  ihave Hp := (Entails.of_eq (rest_r m ρ c n)) $$ Hpay
  imod (Rounds.cell_close ER (Rd m ρ) (Set.mem_univ (K (c, some (rIx n)))) (fun h => h) (R := 0 + 1) (duties_later m ρ (rCell c n))) $$ [Hat] with Hz
  · isplitr; · iexact HI
    iexact Hat
  iapply Hk
  isplitl [Hp]; · iexact Hp
  isplitl [Hz]; · iexact Hz
  iexists _; iexact HO

/-- Device `c`, owing nothing, waits for the end of the sending of its transfer `n`: the source slot is whole again. -/
theorem drain_step (n : Fin 12) (l s s' : Fin 4) (X : S1024x512.Idx → Elt F .bf16)
    (hl : lane n = l) (hh : hop n = s) (hX : snd m ρ n c = X)
    {q : DmaSem sig} (hq : q = dsem (sIx n)) {hw₁ : (slotM l s').view.WordExact} {hw₂ : (slotM l s).view.WordExact} {k : PUnit → Prog (TpuEff nD τ sig (Elt F) Λ₀ .tc) α} {Q : α → sProp 𝕄} :
    iprop(records m ρ K ∗ slot c l s fullShare.right X ∗ sw c n ∗ ow c 0)
      ⊢ iprop(((slot c l s fullShare X ∗ semVal (sCell c n) 0 ∗ ow c 0) -∗ bodyWp c (k ⟨⟩) Q)
          -∗ bodyWp c (.op (.waitDma2 q (slotM l s') (slotM l s) hw₁ hw₂) k) Q) := by
  subst hl hh hX hq
  iintro ⟨#HR, Hr, Hv, HO⟩ Hk
  unfold sw ow
  icases Hv with ⟨Hat, Hc⟩
  icases HO with ⟨%W, HO⟩
  ihave #HI := (inv_at m ρ K (c, some (sIx n))) $$ HR
  iapply (Rounds.wp_wait_rest_token 𝒱₀ ER (Rd m ρ) (c : Thread nD τ) none (κ := K (c, some (sIx n)))
      (wpE_waitDma2_eq 𝒱₀ (c : Thread nD τ) none Set.univ) (Set.mem_univ _) () (O := 0) (W := W) (R := 0) (m := 0) (T := ∅)
      (by rw [Nat.zero_add, expect_s, N_eq])) $$ [Hc HO Hat]
  · isplitr; · iexact HI
    isplitl [Hc]; · rw [N_eq]; iexact Hc
    isplitl [HO]; · iexact HO
    isplitr; · rw [MayWait_zero]; iempintro
    iexact Hat
  iintro ⟨HO, Hat, -, Hpay⟩
  ihave Hp := (Entails.of_eq (rest_s m ρ c n)) $$ Hpay
  imod (Rounds.cell_close ER (Rd m ρ) (Set.mem_univ (K (c, some (sIx n)))) (fun h => h) (R := 0 + 1) (duties_later m ρ (sCell c n))) $$ [Hat] with Hz
  · isplitr; · iexact HI
    iexact Hat
  iapply Hk
  unfold sendPay slot ownsTc
  isplitl [Hp Hr]
  · iapply (owns_halves (c : Thread nD τ) (slotM (lane n) (hop n)) fullShare (snd m ρ n c)).2
    isplitl [Hp] <;> iassumption
  isplitl [Hz]; · iexact Hz
  iexists _; iexact HO

/-! ## The barrier -/

/-- Device `c` signals the barrier of device `d`, paying duty `b` with what that duty hands over. -/
theorem signal_step (b : Bool) (d : Dev nD) (O : CellTallies nD τ sig Unit) {d' : Dev nD} (hd : d' = d) {sem : Sem sig} (hs : sem = barS) {w : ℕ} (hw : w = 1)
    {k : PUnit → Prog (TpuEff nD τ sig (Elt F) Λ₀ .tc) α} {Q : α → sProp 𝕄} :
    iprop(records m ρ K ∗ barPay b d ∗ dutyTok ER (barCell d) 0 b ∗ ow c (O + tallyAt (barCell d) () 1))
      ⊢ iprop((ow c O -∗ bodyWp c (k ⟨⟩) Q) -∗ bodyWp c (.op (.semSignal (Dev.tc d' : Thread nD τ) sem w) k) Q) := by
  subst hd hs hw
  iintro ⟨#HR, Hp, Ht, HO⟩ Hk
  unfold ow
  icases HO with ⟨%W, HO⟩
  ihave #HI := (inv_at m ρ K (d', none)) $$ HR
  ihave #Hr := (reached_at m ρ K (d', none)) $$ HR
  iapply (Rounds.wp_signal 𝒱₀ ER (Rd m ρ) (c : Thread nD τ) none (dst := (d' : Thread nD τ)) (κ := K (d', none))
      (d := b) (by rw [duties_bar]; exact Finset.mem_univ _) rfl () O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- Device `c`, owing its transfers, waits for both signals: both neighbours' slots come with them. -/
theorem barrier_step {sem : Sem sig} (hs : sem = barS) {w : ℕ} (hw : w = 2) {k : PUnit → Prog (TpuEff nD τ sig (Elt F) Λ₀ .tc) α} {Q : α → sProp 𝕄} :
    iprop(records m ρ K ∗ levAts L lv ∗ atPos ER (barCell c) 0 ∅ 0 ∗ cred (tallyAt (barCell c) () 2) ∗ ow c (Os c 0))
      ⊢ iprop(((barPay false c ∗ barPay true c ∗ semVal (barCell c) 0 ∗ ow c (Os c 0)) -∗ bodyWp c (k ⟨⟩) Q)
          -∗ bodyWp c (.op (.semWait sem w) k) Q) := by
  subst hs hw
  iintro ⟨#HR, #Hlev, Hat, Hc, HO⟩ Hk
  unfold ow
  icases HO with ⟨%W, HO⟩
  ihave #HI := (inv_at m ρ K (c, none)) $$ HR
  iapply (Rounds.wp_wait_rest_token 𝒱₀ ER (Rd m ρ) (c : Thread nD τ) none (κ := K (c, none))
      (wpE_semWait_eq 𝒱₀ (c : Thread nD τ) none Set.univ) (Set.mem_univ _) () (O := Os c 0) (W := W) (R := 0) (m := 0) (T := ∅)
      (by rw [expect_bar])) $$ [Hc HO Hat]
  · isplitr; · iexact HI
    isplitl [Hc]; · iexact Hc
    isplitl [HO]; · iexact HO
    isplitr; · iapply (mayWait_at (F := F) c (.reg barS) 0 (by decide)); iexact Hlev
    iexact Hat
  iintro ⟨HO, Hat, -, Hpay⟩
  ihave Hp := (Entails.of_eq (rest_bar m ρ c)) $$ Hpay
  icases Hp with ⟨Hp1, Hp2⟩
  imod (Rounds.cell_close ER (Rd m ρ) (Set.mem_univ (K (c, none))) (fun h => h) (R := 0 + 1) (duties_later m ρ (barCell c))) $$ [Hat] with Hz
  · isplitr; · iexact HI
    iexact Hat
  iapply Hk
  isplitl [Hp1]; · iexact Hp1
  isplitl [Hp2]; · iexact Hp2
  isplitl [Hz]; · iexact Hz
  iexists _; iexact HO

/-! ## Loads and stores of a slot -/

omit [FloatOps F] in
theorem slot_set (l s : Fin 4) : (slotM l s).view.set = ((bufM l).access (slotR s)).set := View.set_reshape _ _

/-- A load of a slot reads its contents, at any share; -/
theorem load_slot (l s : Fin 4) (q : PosShare TreeShare) (X : S1024x512.Idx → Elt F .bf16)
    {M : Memref sig .tc .vmem S4x1024x512 .bf16} (hM : M = bufM l) {off : Fin 3 → ℕ} (hoff : off = ![s.val, 0, 0])
    {inb : ∀ a, off a + S1x1024x512.size a ≤ S4x1024x512.size a}
    {hl : M.view.LoadsAt (Rect.unit (s := S4x1024x512) off S1x1024x512.size inb).toLoadRect} {k : Vec F S1x1024x512 .bf16 → Prog (TpuEff nD τ sig (Elt F) Λ₀ .tc) α} {Q : α → sProp 𝕄} :
    slot c l s q X ⊢ iprop((slot c l s q X -∗ bodyWp c (k (usq X)) Q)
      -∗ bodyWp c (.op (.load M (Rect.unit (s := S4x1024x512) off S1x1024x512.size inb).toLoadRect hl) k) Q) := by
  subst hM hoff
  unfold slot ownsTc owns
  iintro ⟨%f, %hf, H⟩ Hk
  iapply (wp_load 𝒱₀ (c : Thread nD τ) none Set.univ (m := bufM l) (S := (slotM l s).view.set) (f := f) (by
    rw [slot_set]; unfold Memref.access; rw [View.set_slice]; exact subset_rfl)) $$ H
  iintro H
  have hv : (bufM l).view.readAt (Elt F) (slotR s).toLoadRect f = usq X := by
    rw [← hf, Memref.read_squeeze_slice (hc := shapeCasts_S1x1024x512_S1024x512)]
    exact (shapeCast_shapeCast _ _ _).symm
  rw [hv]
  iapply Hk
  iexists f
  isplitr; · ipureintro; exact hf
  iexact H

/-- a load whose value is not used needs no contents. -/
theorem load_slot_any (l s : Fin 4)
    {M : Memref sig .tc .vmem S4x1024x512 .bf16} (hM : M = bufM l) {off : Fin 3 → ℕ} (hoff : off = ![s.val, 0, 0])
    {inb : ∀ a, off a + S1x1024x512.size a ≤ S4x1024x512.size a}
    {hl : M.view.LoadsAt (Rect.unit (s := S4x1024x512) off S1x1024x512.size inb).toLoadRect} {p : Prog (TpuEff nD τ sig (Elt F) Λ₀ .tc) α} {Q : α → sProp 𝕄} :
    slotAny c l s ⊢ iprop((slotAny c l s -∗ bodyWp c p Q)
      -∗ bodyWp c (.op (.load M (Rect.unit (s := S4x1024x512) off S1x1024x512.size inb).toLoadRect hl) (fun _ => p)) Q) := by
  unfold slotAny
  iintro ⟨%X, H⟩ Hk
  iapply (load_slot c l s fullShare X hM hoff) $$ H
  iintro H
  iapply Hk
  iexists X; iexact H

/-- A store to a slot leaves what was stored, whatever was there. -/
theorem store_slot (l s : Fin 4) (X : Vec F S1024x512 .bf16)
    {M : Memref sig .tc .vmem S4x1024x512 .bf16} (hM : M = bufM l) {off : Fin 3 → ℕ} (hoff : off = ![s.val, 0, 0])
    {inb : ∀ a, off a + S1x1024x512.size a ≤ S4x1024x512.size a} {w : Vec F S1x1024x512 .bf16} (hX : sq w = X)
    {hx : (M.access (Rect.unit (s := S4x1024x512) off S1x1024x512.size inb)).Stores Finset.univ}
    {hm : (Finset.univ : Finset S1x1024x512.Idx) = Finset.univ ∨ ∀ a, (Rect.unit (s := S4x1024x512) off S1x1024x512.size inb).stride a = 1}
    {k : PUnit → Prog (TpuEff nD τ sig (Elt F) Λ₀ .tc) α} {Q : α → sProp 𝕄} :
    slotAny c l s ⊢ iprop((slot c l s fullShare X -∗ bodyWp c (k ⟨⟩) Q)
      -∗ bodyWp c (.op (.store M (Rect.unit (s := S4x1024x512) off S1x1024x512.size inb) w Finset.univ hx hm) k) Q) := by
  subst hM hoff hX
  unfold slotAny slot ownsTc owns
  iintro ⟨%Y, %f, -, H⟩ Hk
  iapply (wp_store 𝒱₀ (c : Thread nD τ) none Set.univ (m := bufM l) (r := slotR s) (Mk := Finset.univ) (S := (slotM l s).view.set) (f := f) (by
    rw [View.setOn_univ, slot_set])) $$ H
  iintro H
  iapply Hk
  iexists _
  isplitr
  rotate_left
  · iexact H
  ipureintro
  show ((bufM l).view.slice (slotR s) |>.reshape S1024x512 _).read (Elt F) _ = _
  funext x
  show View.read (Elt F) ((bufM l).view.slice (slotR s)) _ (Shape.reshapeEquiv _ x) = w (Shape.reshapeEquiv _ x)
  exact congrFun (View.read_write_univ (v := (bufM l).view.slice (slotR s)) f w) _

/-! ## Loads and stores of the whole buffers -/

/-- The staged inputs, the copy of `W`, and the result after some stores. -/
def tPts : sProp 𝕄 := ((c : Thread nD τ).loc cc0_stg0_0) ↦{fullShare} ts m ρ c
def wPts : sProp 𝕄 := ((c : Thread nD τ).loc cc0_stg1_0) ↦{fullShare} ws m ρ c
def bPts : sProp 𝕄 := ((c : Thread nD τ).loc cc0_scratch0) ↦{fullShare} wb m ρ c
def bAny : sProp 𝕄 := iprop(∃ f : Buf (Elt F) ((c : Thread nD τ).loc cc0_scratch0), ((c : Thread nD τ).loc cc0_scratch0) ↦{fullShare} f)
def oPts (W : List (View.Piece (Elt F) S4096x1024 .f32)) : sProp 𝕄 :=
  iprop(∃ f : Buf (Elt F) ((c : Thread nD τ).loc cc0_stg2_0), ((c : Thread nD τ).loc cc0_stg2_0) ↦{fullShare} (oM : Memref sig .tc .vmem S4096x1024 .f32).view.writes (Elt F) f W)

theorem load_t {off : Fin 2 → ℕ} {inb : ∀ a, off a + S1024x512.size a ≤ S4096x1024.size a}
    {hl : (tM : Memref sig .tc .vmem S4096x1024 .bf16).view.LoadsAt (Rect.unit (s := S4096x1024) off S1024x512.size inb).toLoadRect}
    {k : Vec F S1024x512 .bf16 → Prog (TpuEff nD τ sig (Elt F) Λ₀ .tc) α} {Q : α → sProp 𝕄} :
    tPts m ρ c ⊢ iprop((tPts m ρ c -∗ bodyWp c (k (tld m ρ c off inb)) Q)
      -∗ bodyWp c (.op (.load tM (Rect.unit (s := S4096x1024) off S1024x512.size inb).toLoadRect hl) k) Q) :=
  wp_load 𝒱₀ (c : Thread nD τ) none Set.univ (m := tM) (S := Finset.univ) (f := ts m ρ c) (Finset.subset_univ _)

omit [FloatOps F] in
theorem hz : (![0, 0] : Fin 2 → Nat) = fun _ => 0 := funext fun a => by fin_cases a <;> rfl

theorem load_w {hl : (wM : Memref sig .tc .vmem S1024x1024 .bf16).view.LoadsAt (Rect.unit (s := S1024x1024) ![0, 0] S1024x1024.size inb_S1024x1024_S1024x1024_0_0).toLoadRect}
    {k : Vec F S1024x1024 .bf16 → Prog (TpuEff nD τ sig (Elt F) Λ₀ .tc) α} {Q : α → sProp 𝕄} :
    wPts m ρ c ⊢ iprop((wPts m ρ c -∗ bodyWp c (k (ws m ρ c)) Q)
      -∗ bodyWp c (.op (.load wM (Rect.unit (s := S1024x1024) ![0, 0] S1024x1024.size inb_S1024x1024_S1024x1024_0_0).toLoadRect hl) k) Q) := by
  have h : (wM : Memref sig .tc .vmem S1024x1024 .bf16).view.readAt (Elt F)
      (Rect.unit (s := S1024x1024) ![0, 0] S1024x1024.size inb_S1024x1024_S1024x1024_0_0).toLoadRect (ws m ρ c) = ws m ρ c :=
    Memref.readAt_unit_zero (Elt F) cc0_stg1_0 hz _ _
  unfold wPts
  iintro H Hk
  iapply (wp_load 𝒱₀ (c : Thread nD τ) none Set.univ (m := wM) (S := Finset.univ) (f := ws m ρ c) (Finset.subset_univ _)) $$ H
  iintro H
  rw [h]
  iapply Hk
  iexact H

theorem load_b_any {hl : (bM : Memref sig .tc .vmem S1024x1024 .bf16).view.LoadsAt (Rect.unit (s := S1024x1024) ![0, 0] S1024x1024.size inb_S1024x1024_S1024x1024_0_0).toLoadRect}
    {p : Prog (TpuEff nD τ sig (Elt F) Λ₀ .tc) α} {Q : α → sProp 𝕄} :
    bAny c ⊢ iprop((bAny c -∗ bodyWp c p Q)
      -∗ bodyWp c (.op (.load bM (Rect.unit (s := S1024x1024) ![0, 0] S1024x1024.size inb_S1024x1024_S1024x1024_0_0).toLoadRect hl) (fun _ => p)) Q) := by
  unfold bAny
  iintro ⟨%f, H⟩ Hk
  iapply (wp_load 𝒱₀ (c : Thread nD τ) none Set.univ (m := bM) (S := Finset.univ) (f := f) (Finset.subset_univ _)) $$ H
  iintro H
  iapply Hk
  iexists f; iexact H

theorem store_b {hx} {hm} {k : PUnit → Prog (TpuEff nD τ sig (Elt F) Λ₀ .tc) α} {Q : α → sProp 𝕄} :
    bAny c ⊢ iprop((bPts m ρ c -∗ bodyWp c (k ⟨⟩) Q)
      -∗ bodyWp c (.op (.store (bM : Memref sig .tc .vmem S1024x1024 .bf16) (Rect.unit (s := S1024x1024) ![0, 0] S1024x1024.size inb_S1024x1024_S1024x1024_0_0)
        (k0_pay3 (ws m ρ c)) Finset.univ hx hm) k) Q) := by
  unfold bAny bPts
  iintro ⟨%f, H⟩ Hk
  iapply (wp_store 𝒱₀ (c : Thread nD τ) none Set.univ (m := bM) (r := Rect.unit (s := S1024x1024) ![0, 0] S1024x1024.size inb_S1024x1024_S1024x1024_0_0)
    (Mk := Finset.univ) (S := Finset.univ) (f := f) (Finset.subset_univ _)) $$ H
  iintro H
  iapply Hk
  rw [show ((bM : Memref sig .tc .vmem S1024x1024 .bf16).access (Rect.unit (s := S1024x1024) ![0, 0] S1024x1024.size inb_S1024x1024_S1024x1024_0_0)).write (Elt F) f
      (k0_pay3 (ws m ρ c)) Finset.univ = wb m ρ c from Memref.write_access_unit_zero_univ (Elt F) cc0_scratch0 hz _ f _]
  iexact H

theorem load_b {off : Fin 2 → ℕ} {inb : ∀ a, off a + S1024x512.size a ≤ S1024x1024.size a}
    {hl : (bM : Memref sig .tc .vmem S1024x1024 .bf16).view.LoadsAt (Rect.unit (s := S1024x1024) off S1024x512.size inb).toLoadRect}
    {k : Vec F S1024x512 .bf16 → Prog (TpuEff nD τ sig (Elt F) Λ₀ .tc) α} {Q : α → sProp 𝕄} :
    bPts m ρ c ⊢ iprop((bPts m ρ c -∗ bodyWp c (k (wld m ρ c off inb)) Q)
      -∗ bodyWp c (.op (.load bM (Rect.unit (s := S1024x1024) off S1024x512.size inb).toLoadRect hl) k) Q) :=
  wp_load 𝒱₀ (c : Thread nD τ) none Set.univ (m := bM) (S := Finset.univ) (f := wb m ρ c) (Finset.subset_univ _)

theorem load_o (W : List (View.Piece (Elt F) S4096x1024 .f32)) {r : LoadRect S4096x1024} {hl : (oM : Memref sig .tc .vmem S4096x1024 .f32).view.LoadsAt r}
    {p : Prog (TpuEff nD τ sig (Elt F) Λ₀ .tc) α} {Q : α → sProp 𝕄} :
    oPts c W ⊢ iprop((oPts c W -∗ bodyWp c p Q) -∗ bodyWp c (.op (.load oM r hl) (fun _ => p)) Q) := by
  unfold oPts
  iintro ⟨%f, H⟩ Hk
  iapply (wp_load 𝒱₀ (c : Thread nD τ) none Set.univ (m := oM) (S := Finset.univ) (Finset.subset_univ _)) $$ H
  iintro H
  iapply Hk
  iexists f; iexact H

theorem store_o (W : List (View.Piece (Elt F) S4096x1024 .f32)) {r : Rect S4096x1024} {w : r.shape.Idx → Elt F .f32}
    {hx : ((oM : Memref sig .tc .vmem S4096x1024 .f32).access r).Stores Finset.univ} {hm : Finset.univ = Finset.univ ∨ ∀ a, r.stride a = 1}
    {k : PUnit → Prog (TpuEff nD τ sig (Elt F) Λ₀ .tc) α} {Q : α → sProp 𝕄} :
    oPts c W ⊢ iprop((oPts c (⟨r, w⟩ :: W) -∗ bodyWp c (k ⟨⟩) Q) -∗ bodyWp c (.op (.store oM r w Finset.univ hx hm) k) Q) := by
  unfold oPts
  iintro ⟨%f, H⟩ Hk
  iapply (wp_store_writes 𝒱₀ (c : Thread nD τ) none Set.univ (m := oM) (r := r) (w := w) (hx := hx) (hm := hm) (k := k) (S := Finset.univ) (f := f) (L := W) (Finset.subset_univ _)) $$ H
  iintro H
  iapply Hk
  iexists f; iexact H

end Steps

end Cert.KProof

end
-- ==== Proof.Body.lean ====
module

public import proofs.«01_k».proof.Proof.Steps

@[expose] public section
/-! # The kernel's body on one device

The body of device `c`, run effect by effect with the rules of `Steps`. -/

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices the body names -/

theorem dev1_eq : ∀ c, (⟨k0_dev1 c, k0_dev1_lt c⟩ : Dev nD) = prv c := by decide +kernel
theorem dev2_eq : ∀ c, (⟨k0_dev2 c, k0_dev2_lt c⟩ : Dev nD) = nxt c := by decide +kernel
theorem dev3_eq : ∀ c, (⟨k0_dev3 c, k0_dev3_lt c⟩ : Dev nD) = nxt c := by decide +kernel
theorem dev4_eq : ∀ c, (⟨k0_dev4 c, k0_dev4_lt c⟩ : Dev nD) = prv c := by decide +kernel
theorem dev5_eq : ∀ c, (⟨k0_dev5 c, k0_dev5_lt c⟩ : Dev nD) = nxt c := by decide +kernel
theorem dev6_eq : ∀ c, (⟨k0_dev6 c, k0_dev6_lt c⟩ : Dev nD) = prv c := by decide +kernel
theorem dev7_eq : ∀ c, (⟨k0_dev7 c, k0_dev7_lt c⟩ : Dev nD) = nxt c := by decide +kernel
theorem dev8_eq : ∀ c, (⟨k0_dev8 c, k0_dev8_lt c⟩ : Dev nD) = prv c := by decide +kernel
theorem dev9_eq : ∀ c, (⟨k0_dev9 c, k0_dev9_lt c⟩ : Dev nD) = nxt c := by decide +kernel
theorem dev10_eq : ∀ c, (⟨k0_dev10 c, k0_dev10_lt c⟩ : Dev nD) = prv c := by decide +kernel
theorem dev11_eq : ∀ c, (⟨k0_dev11 c, k0_dev11_lt c⟩ : Dev nD) = nxt c := by decide +kernel
theorem dev12_eq : ∀ c, (⟨k0_dev12 c, k0_dev12_lt c⟩ : Dev nD) = prv c := by decide +kernel
theorem dev13_eq : ∀ c, (⟨k0_dev13 c, k0_dev13_lt c⟩ : Dev nD) = nxt c := by decide +kernel
theorem dev14_eq : ∀ c, (⟨k0_dev14 c, k0_dev14_lt c⟩ : Dev nD) = prv c := by decide +kernel

theorem way_even {n : Fin 12} (h : n.val % 2 = 0) (c : Dev nD) : way n c = nxt c := by unfold way; rw [if_pos h]; rfl
theorem way_odd {n : Fin 12} (h : n.val % 2 ≠ 0) (c : Dev nD) : way n c = prv c := by unfold way; rw [if_neg h]; rfl
theorem unway_even {n : Fin 12} (h : n.val % 2 = 0) (c : Dev nD) : (way n).symm c = prv c := by unfold way; rw [if_pos h]; rfl
theorem unway_odd {n : Fin 12} (h : n.val % 2 ≠ 0) (c : Dev nD) : (way n).symm c = nxt c := by unfold way; rw [if_neg h]; rfl

theorem recv_even {n : Fin 12} (h : n.val % 2 = 0) {l s : Fin 4} (hl : lane n = l) (hs : hop' n = s) (c : Dev nD) :
    recvPay m ρ n c = slot c l s fullShare (snd m ρ n (prv c)) := by
  unfold recvPay; rw [unway_even h, hl, hs]
theorem recv_odd {n : Fin 12} (h : n.val % 2 ≠ 0) {l s : Fin 4} (hl : lane n = l) (hs : hop' n = s) (c : Dev nD) :
    recvPay m ρ n c = slot c l s fullShare (snd m ρ n (nxt c)) := by
  unfold recvPay; rw [unway_odd h, hl, hs]

section Put
variable (c : Dev nD) {α : Type}

/-- The kernel loads each slot before it overwrites it: what was there does not matter. -/
theorem put_step (l s : Fin 4) (X : Vec F S1024x512 .bf16)
    {M : Memref sig .tc .vmem S4x1024x512 .bf16} (hM : M = bufM l) {off : Fin 3 → ℕ} (hoff : off = ![s.val, 0, 0])
    {inb : ∀ a, off a + S1x1024x512.size a ≤ S4x1024x512.size a} {w : Vec F S1x1024x512 .bf16} (hX : sq w = X)
    {hl : M.view.LoadsAt (Rect.unit (s := S4x1024x512) off S1x1024x512.size inb).toLoadRect}
    {hx : (M.access (Rect.unit (s := S4x1024x512) off S1x1024x512.size inb)).Stores Finset.univ}
    {hm : (Finset.univ : Finset S1x1024x512.Idx) = Finset.univ ∨ ∀ a, (Rect.unit (s := S4x1024x512) off S1x1024x512.size inb).stride a = 1}
    {k : PUnit → Prog (TpuEff nD τ sig (Elt F) Λ₀ .tc) α} {Q : α → sProp 𝕄} :
    slotAny c l s ⊢ iprop((slot c l s fullShare X -∗ bodyWp c (k ⟨⟩) Q)
      -∗ bodyWp c (.op (.load M (Rect.unit (s := S4x1024x512) off S1x1024x512.size inb).toLoadRect hl)
          (fun _ => .op (.store M (Rect.unit (s := S4x1024x512) off S1x1024x512.size inb) w Finset.univ hx hm) k)) Q) := by
  iintro H Hk
  iapply (load_slot_any c l s hM hoff) $$ H
  iintro H
  iapply (store_slot c l s X hM hoff hX) $$ H
  iexact Hk

/-- The same where the slot's contents are known. -/
theorem put_over (l s : Fin 4) (Y X : Vec F S1024x512 .bf16)
    {M : Memref sig .tc .vmem S4x1024x512 .bf16} (hM : M = bufM l) {off : Fin 3 → ℕ} (hoff : off = ![s.val, 0, 0])
    {inb : ∀ a, off a + S1x1024x512.size a ≤ S4x1024x512.size a} {w : Vec F S1x1024x512 .bf16} (hX : sq w = X)
    {hl : M.view.LoadsAt (Rect.unit (s := S4x1024x512) off S1x1024x512.size inb).toLoadRect}
    {hx : (M.access (Rect.unit (s := S4x1024x512) off S1x1024x512.size inb)).Stores Finset.univ}
    {hm : (Finset.univ : Finset S1x1024x512.Idx) = Finset.univ ∨ ∀ a, (Rect.unit (s := S4x1024x512) off S1x1024x512.size inb).stride a = 1}
    {k : PUnit → Prog (TpuEff nD τ sig (Elt F) Λ₀ .tc) α} {Q : α → sProp 𝕄} :
    slot c l s fullShare Y ⊢ iprop((slot c l s fullShare X -∗ bodyWp c (k ⟨⟩) Q)
      -∗ bodyWp c (.op (.load M (Rect.unit (s := S4x1024x512) off S1x1024x512.size inb).toLoadRect hl)
          (fun _ => .op (.store M (Rect.unit (s := S4x1024x512) off S1x1024x512.size inb) w Finset.univ hx hm) k)) Q) := by
  iintro H Hk
  iapply (put_step c l s X hM hoff hX) $$ [H]
  · unfold slotAny; iexists Y; iexact H
  iexact Hk

/-- The stores to the result are preceded by a load too. -/
theorem put_out (W : List (View.Piece (Elt F) S4096x1024 .f32)) {lr : LoadRect S4096x1024} {hl : (oM : Memref sig .tc .vmem S4096x1024 .f32).view.LoadsAt lr}
    {r : Rect S4096x1024} {w : r.shape.Idx → Elt F .f32}
    {hx : ((oM : Memref sig .tc .vmem S4096x1024 .f32).access r).Stores Finset.univ} {hm : Finset.univ = Finset.univ ∨ ∀ a, r.stride a = 1}
    {k : PUnit → Prog (TpuEff nD τ sig (Elt F) Λ₀ .tc) α} {Q : α → sProp 𝕄} :
    oPts c W ⊢ iprop((oPts c (⟨r, w⟩ :: W) -∗ bodyWp c (k ⟨⟩) Q)
      -∗ bodyWp c (.op (.load oM lr hl) (fun _ => .op (.store oM r w Finset.univ hx hm) k)) Q) := by
  iintro H Hk
  iapply (load_o c W) $$ H
  iintro H
  iapply (store_o c W) $$ H
  iexact Hk
end Put

section Body
variable (K : Dev nD × Option (Fin 32) → ℕ) (c : Dev nD)

/-- What device `c` brings to its barrier. -/
def barIn : sProp 𝕄 :=
  iprop(atPos ER (barCell c) 0 ∅ 0 ∗ cred (tallyAt (barCell c) () 2) ∗ dutyTok ER (barCell (prv c)) 0 true ∗ dutyTok ER (barCell (nxt c)) 0 false)
/-- What it brings to its transfers, -/
def kitIn : sProp 𝕄 :=
  iprop((tk c 0 ∗ tk c 1 ∗ tk c 2 ∗ tk c 3 ∗ tk c 4 ∗ tk c 5 ∗ tk c 6 ∗ tk c 7 ∗ tk c 8 ∗ tk c 9 ∗ tk c 10 ∗ tk c 11)
    ∗ (vk c 0 ∗ vk c 1 ∗ vk c 2 ∗ vk c 3 ∗ vk c 4 ∗ vk c 5 ∗ vk c 6 ∗ vk c 7 ∗ vk c 8 ∗ vk c 9 ∗ vk c 10 ∗ vk c 11))
/-- All the slots of one buffer, -/
def slots (l : Fin 4) : sProp 𝕄 := iprop(slotAny (F := F) c l 0 ∗ slotAny (F := F) c l 1 ∗ slotAny (F := F) c l 2 ∗ slotAny (F := F) c l 3)
/-- and its sixteen slots. -/
def slotsAll : sProp 𝕄 := iprop(slots (F := F) c 0 ∗ slots (F := F) c 1 ∗ slots (F := F) c 2 ∗ slots (F := F) c 3)

/-- A body that has returned has its postcondition. -/
theorem body_ret {α : Type} {a : α} {Q : α → sProp 𝕄} : Q a ⊢ bodyWp c (.ret a) Q := by
  show _ ⊢ wp frame (wpE (defs₀ (F := F)) 𝒱₀ (c : Thread nD τ) none) Set.univ (.ret a) Q
  rw [wp_ret]; iintro H; imodintro; iexact H

omit [FloatOps F] in
/-- Four slots at known contents are four slots. -/
theorem slots_of (l : Fin 4) (X Y Z V : Vec F S1024x512 .bf16) :
    iprop(slot c l 0 fullShare X ∗ slot c l 1 fullShare Y ∗ slot c l 2 fullShare Z ∗ slot c l 3 fullShare V)
      ⊢ iprop(slotAny (F := F) c l 0 ∗ slotAny (F := F) c l 1 ∗ slotAny (F := F) c l 2 ∗ slotAny (F := F) c l 3) := by
  unfold slotAny
  iintro ⟨A, B, C, D⟩
  isplitl [A]; · iexists X; iexact A
  isplitl [B]; · iexists Y; iexact B
  isplitl [C]; · iexists Z; iexact C
  iexists V; iexact D

/-- The pieces device `c` stores in the result, last first: the other devices' products as they arrive, and its own. -/
def outW : List (View.Piece (Elt F) S4096x1024 .f32) :=
  [⟨Rect.unit (s := S4096x1024) (k0_off4 c 1#32 2#32) S1024x512.size (k0_off4_inb c 4), k0_pay21 (usq (D0 m ρ (nxt (nxt (nxt c)))))⟩,
   ⟨Rect.unit (s := S4096x1024) (k0_off3 c 1#32 2#32) S1024x512.size (k0_off3_inb c 4), k0_pay20 (usq (C0 m ρ (prv (prv (prv c)))))⟩,
   ⟨Rect.unit (s := S4096x1024) (k0_off4 c 1#32 1#32) S1024x512.size (k0_off4_inb c 3), k0_pay19 (usq (D0 m ρ (nxt (nxt c))))⟩,
   ⟨Rect.unit (s := S4096x1024) (k0_off3 c 1#32 1#32) S1024x512.size (k0_off3_inb c 3), k0_pay18 (usq (C0 m ρ (prv (prv c))))⟩,
   ⟨Rect.unit (s := S4096x1024) (k0_off4 c 1#32 0#32) S1024x512.size (k0_off4_inb c 2), k0_pay17 (usq (D0 m ρ (nxt c)))⟩,
   ⟨Rect.unit (s := S4096x1024) (k0_off3 c 1#32 0#32) S1024x512.size (k0_off3_inb c 2), k0_pay16 (usq (C0 m ρ (prv c)))⟩,
   ⟨Rect.unit (s := S4096x1024) (k0_off6 c) S1024x512.size (k0_off6_inb c), resR m ρ c⟩,
   ⟨Rect.unit (s := S4096x1024) (k0_off5 c) S1024x512.size (k0_off5_inb c), resL m ρ c⟩]

/-- The semaphores at the end: the barrier's and every transfer's counter is zero again. -/
def zeros : sProp 𝕄 :=
  iprop(semVal (barCell c) 0
    ∗ (semVal (sCell c 0) 0 ∗ semVal (sCell c 1) 0 ∗ semVal (sCell c 2) 0 ∗ semVal (sCell c 3) 0 ∗ semVal (sCell c 4) 0 ∗ semVal (sCell c 5) 0
      ∗ semVal (sCell c 6) 0 ∗ semVal (sCell c 7) 0 ∗ semVal (sCell c 8) 0 ∗ semVal (sCell c 9) 0 ∗ semVal (sCell c 10) 0 ∗ semVal (sCell c 11) 0)
    ∗ (semVal (rCell c 0) 0 ∗ semVal (rCell c 1) 0 ∗ semVal (rCell c 2) 0 ∗ semVal (rCell c 3) 0 ∗ semVal (rCell c 4) 0 ∗ semVal (rCell c 5) 0
      ∗ semVal (rCell c 6) 0 ∗ semVal (rCell c 7) 0 ∗ semVal (rCell c 8) 0 ∗ semVal (rCell c 9) 0 ∗ semVal (rCell c 10) 0 ∗ semVal (rCell c 11) 0))

/-- What the body starts from, -/
def bodyIn : sProp 𝕄 :=
  iprop(records m ρ K ∗ levAts L lv ∗ barIn (F := F) c ∗ kitIn (F := F) c ∗ slotsAll (F := F) c ∗ bAny c ∗ ow c (O₀ c) ∗ tPts m ρ c ∗ wPts m ρ c ∗ oPts c [])
/-- and what it ends with: the result stored, nothing owed, every slot back, every counter zero. -/
def bodyOut : sProp 𝕄 :=
  iprop(slotsAll (F := F) c ∗ bAny (F := F) c ∗ ow (F := F) c 0 ∗ tPts m ρ c ∗ wPts m ρ c ∗ oPts c (outW m ρ c) ∗ zeros (F := F) c)

set_option maxHeartbeats 4000000 in
/-- The body of device `c`, effect by effect. -/
theorem body_run (Kt : PUnit → sProp 𝕄) :
    iprop(bodyIn m ρ K c ∗ (bodyOut m ρ c -∗ Kt ⟨⟩))
      ⊢ bodyWp c (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scratch9 cc0_scratch10 cc0_scratch11 cc0_scratch12) Kt := by
  unfold bodyIn barIn kitIn slotsAll slots
  rw [cc0_body_eq_skeleton]; unfold cc0_body_skel
  rw [k0_part1_eq_skeleton]; unfold k0_part1_skel
  simp only [semSignalWord, semWaitWord, Prog.lift, Prog.bind_op, Prog.bind_ret, Prog.pure_eq_ret, wp_deviceId]
  iintro ⟨⟨#HR, #HL, ⟨Hba, Hbc, Hbt, Hbf⟩,
    ⟨⟨Ht0, Ht1, Ht2, Ht3, Ht4, Ht5, Ht6, Ht7, Ht8, Ht9, Ht10, Ht11⟩, ⟨Hv0, Hv1, Hv2, Hv3, Hv4, Hv5, Hv6, Hv7, Hv8, Hv9, Hv10, Hv11⟩⟩,
    ⟨⟨A0, A1, A2, A3⟩, ⟨B0, B1, B2, B3⟩, ⟨C0, C1, C2, C3⟩, ⟨D0, D1, D2, D3⟩⟩, Hb, HO, Ht, Hw, Ho⟩, Hk⟩
  iapply (signal_step m ρ K c true (prv c) (O₁ c) (dev1_eq c) rfl rfl) $$ [A1 A2 A3 C1 C2 C3 Hbt HO]
  · unfold barPay; rw [if_pos rfl, nxt_prv]; unfold O₀; iframe ∗ #
  iintro HO
  iapply (signal_step m ρ K c false (nxt c) (Os c 0) (dev2_eq c) rfl rfl) $$ [B1 B2 B3 D1 D2 D3 Hbf HO]
  · unfold barPay; rw [if_neg Bool.false_ne_true, prv_nxt]; unfold O₁; iframe ∗ #
  iintro HO
  iapply (barrier_step m ρ K c rfl rfl) $$ [Hba Hbc HO]
  · iframe ∗ #
  unfold barPay
  rw [if_pos rfl, if_neg Bool.false_ne_true]
  iintro ⟨⟨B1, B2, B3, D1, D2, D3⟩, ⟨A1, A2, A3, C1, C2, C3⟩, Hzb, HO⟩
  rw [k0_part2_eq_skeleton]; unfold k0_part2_skel
  simp only [Prog.lift, Prog.bind_op, Prog.bind_ret, Prog.pure_eq_ret]
  iapply (load_t m ρ c) $$ Ht
  iintro Ht
  iapply (put_step c 0 0 (A0 m ρ c) rfl rfl rfl) $$ A0
  iintro A0
  iapply (load_t m ρ c) $$ Ht
  iintro Ht
  iapply (put_step c 1 0 (B0 m ρ c) rfl rfl rfl) $$ B0
  iintro B0
  rw [k0_part3_eq_skeleton]; unfold k0_part3_skel
  simp only [Prog.lift, Prog.bind_op, Prog.bind_ret, Prog.pure_eq_ret]
  iapply (send_step m ρ K c 0 0 0 1 (A0 m ρ c) (nxt c) 0 1 rfl rfl rfl rfl rfl rfl rfl rfl rfl (dev3_eq c)) $$ [A0 A1 Ht0 HO]
  · iframe ∗ #
  iintro ⟨A0, Ht0, HO⟩
  iapply (send_step m ρ K c 1 1 0 1 (B0 m ρ c) (prv c) 1 2 rfl rfl rfl rfl rfl rfl rfl rfl rfl (dev4_eq c)) $$ [B0 B1 Ht1 HO]
  · iframe ∗ #
  iintro ⟨B0, Ht1, HO⟩
  iapply (load_w m ρ c) $$ Hw
  iintro Hw
  iapply (load_b_any c) $$ Hb
  iintro Hb
  iapply (store_b m ρ c) $$ Hb
  iintro Hb
  rw [k0_part4_eq_skeleton]; unfold k0_part4_skel
  simp only [Prog.lift, Prog.bind_op, Prog.bind_ret, Prog.pure_eq_ret]
  iapply (recv_step m ρ K c 0 0 0 1 (slot c 0 1 fullShare (A0 m ρ (prv c))) 2 rfl (by decide) rfl) $$ [Hv0 HO]
  · iframe ∗ #
  iintro ⟨A1, Hv0, HO⟩
  iapply (load_slot c 0 1 fullShare (A0 m ρ (prv c)) rfl rfl) $$ A1
  iintro A1
  iapply (load_t m ρ c) $$ Ht
  iintro Ht
  iapply (put_over c 0 1 _ (A1 m ρ c) rfl rfl rfl) $$ A1
  iintro A1
  rw [k0_part5_eq_skeleton]; unfold k0_part5_skel
  simp only [Prog.lift, Prog.bind_op, Prog.bind_ret, Prog.pure_eq_ret]
  iapply (send_step m ρ K c 2 0 1 2 (A1 m ρ c) (nxt c) 2 3 rfl rfl rfl rfl rfl rfl rfl rfl rfl (dev5_eq c)) $$ [A1 A2 Ht2 HO]
  · iframe ∗ #
  iintro ⟨A1, Ht2, HO⟩
  iapply (recv_step m ρ K c 1 1 0 1 (slot c 1 1 fullShare (B0 m ρ (nxt c))) 3 rfl (by decide) rfl) $$ [Hv1 HO]
  · iframe ∗ #
  iintro ⟨B1, Hv1, HO⟩
  iapply (load_slot c 1 1 fullShare (B0 m ρ (nxt c)) rfl rfl) $$ B1
  iintro B1
  iapply (load_t m ρ c) $$ Ht
  iintro Ht
  rw [k0_part6_eq_skeleton]; unfold k0_part6_skel
  simp only [Prog.lift, Prog.bind_op, Prog.bind_ret, Prog.pure_eq_ret]
  iapply (put_over c 1 1 _ (B1 m ρ c) rfl rfl rfl) $$ B1
  iintro B1
  iapply (send_step m ρ K c 3 1 1 2 (B1 m ρ c) (prv c) 3 4 rfl rfl rfl rfl rfl rfl rfl rfl rfl (dev6_eq c)) $$ [B1 B2 Ht3 HO]
  · iframe ∗ #
  iintro ⟨B1, Ht3, HO⟩
  iapply (recv_step m ρ K c 2 0 1 2 (slot c 0 2 fullShare (A1 m ρ (prv c))) 4 rfl (by decide) rfl) $$ [Hv2 HO]
  · iframe ∗ #
  iintro ⟨A2, Hv2, HO⟩
  iapply (load_slot c 0 2 fullShare (A1 m ρ (prv c)) rfl rfl) $$ A2
  iintro A2
  rw [k0_part7_eq_skeleton]; unfold k0_part7_skel
  simp only [Prog.lift, Prog.bind_op, Prog.bind_ret, Prog.pure_eq_ret]
  iapply (load_t m ρ c) $$ Ht
  iintro Ht
  iapply (put_over c 0 2 _ (A2 m ρ c) rfl rfl rfl) $$ A2
  iintro A2
  iapply (send_step m ρ K c 4 0 2 3 (A2 m ρ c) (nxt c) 4 5 rfl rfl rfl rfl rfl rfl rfl rfl rfl (dev7_eq c)) $$ [A2 A3 Ht4 HO]
  · iframe ∗ #
  iintro ⟨A2, Ht4, HO⟩
  rw [k0_part8_eq_skeleton]; unfold k0_part8_skel
  simp only [Prog.lift, Prog.bind_op, Prog.bind_ret, Prog.pure_eq_ret]
  iapply (recv_step m ρ K c 3 1 1 2 (slot c 1 2 fullShare (B1 m ρ (nxt c))) 5 rfl (by decide) rfl) $$ [Hv3 HO]
  · iframe ∗ #
  iintro ⟨B2, Hv3, HO⟩
  iapply (load_slot c 1 2 fullShare (B1 m ρ (nxt c)) rfl rfl) $$ B2
  iintro B2
  iapply (load_t m ρ c) $$ Ht
  iintro Ht
  iapply (put_over c 1 2 _ (B2 m ρ c) rfl rfl rfl) $$ B2
  iintro B2
  rw [k0_part9_eq_skeleton]; unfold k0_part9_skel
  simp only [Prog.lift, Prog.bind_op, Prog.bind_ret, Prog.pure_eq_ret]
  iapply (send_step m ρ K c 5 1 2 3 (B2 m ρ c) (prv c) 5 6 rfl rfl rfl rfl rfl rfl rfl rfl rfl (dev8_eq c)) $$ [B2 B3 Ht5 HO]
  · iframe ∗ #
  iintro ⟨B2, Ht5, HO⟩
  iapply (recv_step m ρ K c 4 0 2 3 (slot c 0 3 fullShare (A2 m ρ (prv c))) 6 rfl (by decide) rfl) $$ [Hv4 HO]
  · iframe ∗ #
  iintro ⟨A3, Hv4, HO⟩
  iapply (recv_step m ρ K c 5 1 2 3 (slot c 1 3 fullShare (B2 m ρ (nxt c))) 6 rfl (by decide) rfl) $$ [Hv5 HO]
  · iframe ∗ #
  iintro ⟨B3, Hv5, HO⟩
  iapply (load_slot c 0 3 fullShare (A2 m ρ (prv c)) rfl rfl) $$ A3
  iintro A3
  iapply (load_t m ρ c) $$ Ht
  iintro Ht
  rw [k0_part10_eq_skeleton]; unfold k0_part10_skel
  simp only [Prog.lift, Prog.bind_op, Prog.bind_ret, Prog.pure_eq_ret]
  iapply (load_slot c 1 3 fullShare (B2 m ρ (nxt c)) rfl rfl) $$ B3
  iintro B3
  iapply (load_t m ρ c) $$ Ht
  iintro Ht
  iapply (load_b m ρ c) $$ Hb
  iintro Hb
  iapply (put_step c 2 0 (C0 m ρ c) rfl rfl rfl) $$ C0
  iintro C0
  iapply (send_step m ρ K c 6 2 0 1 (C0 m ρ c) (nxt c) 6 7 rfl rfl rfl rfl rfl rfl rfl rfl rfl (dev9_eq c)) $$ [C0 C1 Ht6 HO]
  · iframe ∗ #
  iintro ⟨C0, Ht6, HO⟩
  iapply (load_b m ρ c) $$ Hb
  iintro Hb
  iapply (put_step c 3 0 (D0 m ρ c) rfl rfl rfl) $$ D0
  iintro D0
  rw [k0_part11_eq_skeleton]; unfold k0_part11_skel
  simp only [Prog.lift, Prog.bind_op, Prog.bind_ret, Prog.pure_eq_ret]
  iapply (send_step m ρ K c 7 3 0 1 (D0 m ρ c) (prv c) 7 8 rfl rfl rfl rfl rfl rfl rfl rfl rfl (dev10_eq c)) $$ [D0 D1 Ht7 HO]
  · iframe ∗ #
  iintro ⟨D0, Ht7, HO⟩
  iapply (put_out c _) $$ Ho
  iintro Ho
  iapply (put_out c _) $$ Ho
  iintro Ho
  iapply (recv_step m ρ K c 6 2 0 1 (slot c 2 1 fullShare (C0 m ρ (prv c))) 8 rfl (by decide) rfl) $$ [Hv6 HO]
  · iframe ∗ #
  iintro ⟨C1, Hv6, HO⟩
  rw [k0_part12_eq_skeleton]; unfold k0_part12_skel
  simp only [Prog.lift, Prog.bind_op, Prog.bind_ret, Prog.pure_eq_ret]
  iapply (send_step m ρ K c 8 2 1 2 (C0 m ρ (prv c)) (nxt c) 8 9 rfl rfl rfl rfl rfl rfl rfl rfl rfl (dev11_eq c)) $$ [C1 C2 Ht8 HO]
  · iframe ∗ #
  iintro ⟨C1, Ht8, HO⟩
  iapply (load_slot c 2 1 fullShare.right (C0 m ρ (prv c)) rfl rfl) $$ C1
  iintro C1
  iapply (put_out c _) $$ Ho
  iintro Ho
  rw [k0_part13_eq_skeleton]; unfold k0_part13_skel
  simp only [Prog.lift, Prog.bind_op, Prog.bind_ret, Prog.pure_eq_ret]
  iapply (recv_step m ρ K c 7 3 0 1 (slot c 3 1 fullShare (D0 m ρ (nxt c))) 9 rfl (by decide) rfl) $$ [Hv7 HO]
  · iframe ∗ #
  iintro ⟨D1, Hv7, HO⟩
  iapply (send_step m ρ K c 9 3 1 2 (D0 m ρ (nxt c)) (prv c) 9 10 rfl rfl rfl rfl rfl rfl rfl rfl rfl (dev12_eq c)) $$ [D1 D2 Ht9 HO]
  · iframe ∗ #
  iintro ⟨D1, Ht9, HO⟩
  iapply (load_slot c 3 1 fullShare.right (D0 m ρ (nxt c)) rfl rfl) $$ D1
  iintro D1
  iapply (put_out c _) $$ Ho
  iintro Ho
  rw [k0_part14_eq_skeleton]; unfold k0_part14_skel
  simp only [Prog.lift, Prog.bind_op, Prog.bind_ret, Prog.pure_eq_ret]
  iapply (recv_step m ρ K c 8 2 1 2 (slot c 2 2 fullShare (C0 m ρ (prv (prv c)))) 10 rfl (by decide) rfl) $$ [Hv8 HO]
  · iframe ∗ #
  iintro ⟨C2, Hv8, HO⟩
  iapply (send_step m ρ K c 10 2 2 3 (C0 m ρ (prv (prv c))) (nxt c) 10 11 rfl rfl rfl rfl rfl rfl rfl rfl rfl (dev13_eq c)) $$ [C2 C3 Ht10 HO]
  · iframe ∗ #
  iintro ⟨C2, Ht10, HO⟩
  iapply (load_slot c 2 2 fullShare.right (C0 m ρ (prv (prv c))) rfl rfl) $$ C2
  iintro C2
  rw [k0_part15_eq_skeleton]; unfold k0_part15_skel
  simp only [Prog.lift, Prog.bind_op, Prog.bind_ret, Prog.pure_eq_ret]
  iapply (put_out c _) $$ Ho
  iintro Ho
  iapply (recv_step m ρ K c 9 3 1 2 (slot c 3 2 fullShare (D0 m ρ (nxt (nxt c)))) 11 rfl (by decide) rfl) $$ [Hv9 HO]
  · iframe ∗ #
  iintro ⟨D2, Hv9, HO⟩
  iapply (send_step m ρ K c 11 3 2 3 (D0 m ρ (nxt (nxt c))) (prv c) 11 12 rfl rfl rfl rfl rfl rfl rfl rfl rfl (dev14_eq c)) $$ [D2 D3 Ht11 HO]
  · iframe ∗ #
  iintro ⟨D2, Ht11, HO⟩
  iapply (load_slot c 3 2 fullShare.right (D0 m ρ (nxt (nxt c))) rfl rfl) $$ D2
  iintro D2
  rw [k0_part16_eq_skeleton]; unfold k0_part16_skel
  simp only [Prog.lift, Prog.bind_op, Prog.bind_ret, Prog.pure_eq_ret]
  iapply (put_out c _) $$ Ho
  iintro Ho
  iapply (recv_step m ρ K c 10 2 2 3 (slot c 2 3 fullShare (C0 m ρ (prv (prv (prv c))))) 12 rfl (by decide) rfl) $$ [Hv10 HO]
  · iframe ∗ #
  iintro ⟨C3, Hv10, HO⟩
  iapply (load_slot c 2 3 fullShare (C0 m ρ (prv (prv (prv c)))) rfl rfl) $$ C3
  iintro C3
  rw [k0_part17_eq_skeleton]; unfold k0_part17_skel
  simp only [Prog.lift, Prog.bind_op, Prog.bind_ret, Prog.pure_eq_ret]
  iapply (put_out c _) $$ Ho
  iintro Ho
  iapply (recv_step m ρ K c 11 3 2 3 (slot c 3 3 fullShare (D0 m ρ (nxt (nxt (nxt c))))) 12 rfl (by decide) rfl) $$ [Hv11 HO]
  · iframe ∗ #
  iintro ⟨D3, Hv11, HO⟩
  iapply (load_slot c 3 3 fullShare (D0 m ρ (nxt (nxt (nxt c)))) rfl rfl) $$ D3
  iintro D3
  iapply (load_o c _) $$ Ho
  iintro Ho
  rw [k0_part18_eq_skeleton]; unfold k0_part18_skel
  simp only [Prog.lift, Prog.bind_op, Prog.bind_ret, Prog.pure_eq_ret]
  iapply (store_o c _) $$ Ho
  iintro Ho
  rw [Os_end]
  iapply (drain_step m ρ K c 0 0 0 1 (A0 m ρ c) rfl rfl rfl rfl) $$ [A0 Ht0 HO]
  · iframe ∗ #
  iintro ⟨A0, Ht0, HO⟩
  iapply (drain_step m ρ K c 1 1 0 1 (B0 m ρ c) rfl rfl rfl rfl) $$ [B0 Ht1 HO]
  · iframe ∗ #
  iintro ⟨B0, Ht1, HO⟩
  iapply (drain_step m ρ K c 2 0 1 2 (A1 m ρ c) rfl rfl rfl rfl) $$ [A1 Ht2 HO]
  · iframe ∗ #
  iintro ⟨A1, Ht2, HO⟩
  rw [k0_part19_eq_skeleton]; unfold k0_part19_skel
  simp only [Prog.lift, Prog.bind_op, Prog.bind_ret, Prog.pure_eq_ret]
  iapply (drain_step m ρ K c 3 1 1 2 (B1 m ρ c) rfl rfl rfl rfl) $$ [B1 Ht3 HO]
  · iframe ∗ #
  iintro ⟨B1, Ht3, HO⟩
  iapply (drain_step m ρ K c 4 0 2 3 (A2 m ρ c) rfl rfl rfl rfl) $$ [A2 Ht4 HO]
  · iframe ∗ #
  iintro ⟨A2, Ht4, HO⟩
  iapply (drain_step m ρ K c 5 1 2 3 (B2 m ρ c) rfl rfl rfl rfl) $$ [B2 Ht5 HO]
  · iframe ∗ #
  iintro ⟨B2, Ht5, HO⟩
  iapply (drain_step m ρ K c 6 2 0 1 (C0 m ρ c) rfl rfl rfl rfl) $$ [C0 Ht6 HO]
  · iframe ∗ #
  iintro ⟨C0, Ht6, HO⟩
  rw [k0_part20_eq_skeleton]; unfold k0_part20_skel
  simp only [Prog.lift, Prog.bind_op, Prog.bind_ret, Prog.pure_eq_ret]
  iapply (drain_step m ρ K c 7 3 0 1 (D0 m ρ c) rfl rfl rfl rfl) $$ [D0 Ht7 HO]
  · iframe ∗ #
  iintro ⟨D0, Ht7, HO⟩
  iapply (drain_step m ρ K c 8 2 1 2 (C0 m ρ (prv c)) rfl rfl rfl rfl) $$ [C1 Ht8 HO]
  · iframe ∗ #
  iintro ⟨C1, Ht8, HO⟩
  iapply (drain_step m ρ K c 9 3 1 2 (D0 m ρ (nxt c)) rfl rfl rfl rfl) $$ [D1 Ht9 HO]
  · iframe ∗ #
  iintro ⟨D1, Ht9, HO⟩
  iapply (drain_step m ρ K c 10 2 2 3 (C0 m ρ (prv (prv c))) rfl rfl rfl rfl) $$ [C2 Ht10 HO]
  · iframe ∗ #
  iintro ⟨C2, Ht10, HO⟩
  iapply (drain_step m ρ K c 11 3 2 3 (D0 m ρ (nxt (nxt c))) rfl rfl rfl rfl) $$ [D2 Ht11 HO]
  · iframe ∗ #
  iintro ⟨D2, Ht11, HO⟩
  iapply (body_ret c)
  iapply Hk
  unfold bodyOut slotsAll slots zeros
  isplitl [A0 A1 A2 A3 B0 B1 B2 B3 C0 C1 C2 C3 D0 D1 D2 D3]
  · isplitl [A0 A1 A2 A3]
    · iapply (slots_of c 0 _ _ _ _) $$ [A0 A1 A2 A3]; iframe ∗
    isplitl [B0 B1 B2 B3]
    · iapply (slots_of c 1 _ _ _ _) $$ [B0 B1 B2 B3]; iframe ∗
    isplitl [C0 C1 C2 C3]
    · iapply (slots_of c 2 _ _ _ _) $$ [C0 C1 C2 C3]; iframe ∗
    iapply (slots_of c 3 _ _ _ _) $$ [D0 D1 D2 D3]; iframe ∗
  isplitl [Hb]
  · unfold bAny bPts; iexists _; iexact Hb
  isplitl [HO]; · iexact HO
  isplitl [Ht]; · iexact Ht
  isplitl [Hw]; · iexact Hw
  isplitl [Ho]
  · unfold outW resL resR; iexact Ho
  iframe ∗

end Body
end Cert.KProof
end
-- ==== Proof.Launch.lean ====
module

public import proofs.«01_k».proof.Proof.Body

@[expose] public section
/-! # The launch

The kernel's body as the pipeline's launch theorem takes it: what each device holds when its region starts and when it
ends, how the semaphores of all the devices become the cells of the protocol at launch and how the duty tokens and the
credits are dealt, and the run of the whole program from any memory. Everything here is stated for any float values `F`. -/

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces of the result -/

theorem off5_at : ∀ c, k0_off5 c = ![1024 * c.val, 0] := by decide +kernel
theorem off6_at : ∀ c, k0_off6 c = ![1024 * c.val, 512] := by decide +kernel
theorem off3_at1 : ∀ c, k0_off3 c 1#32 0#32 = ![1024 * (prv c).val, 0] := by decide +kernel
theorem off3_at2 : ∀ c, k0_off3 c 1#32 1#32 = ![1024 * (prv (prv c)).val, 0] := by decide +kernel
theorem off3_at3 : ∀ c, k0_off3 c 1#32 2#32 = ![1024 * (prv (prv (prv c))).val, 0] := by decide +kernel
theorem off4_at1 : ∀ c, k0_off4 c 1#32 0#32 = ![1024 * (nxt c).val, 512] := by decide +kernel
theorem off4_at2 : ∀ c, k0_off4 c 1#32 1#32 = ![1024 * (nxt (nxt c)).val, 512] := by decide +kernel
theorem off4_at3 : ∀ c, k0_off4 c 1#32 2#32 = ![1024 * (nxt (nxt (nxt c))).val, 512] := by decide +kernel

/-- An index of the result lies in the piece at rows `1024 d` and columns `k` when its row and column say so. -/
theorem mem_piece {off : Fin 2 → ℕ} (inb : ∀ a, off a + S1024x512.size a ≤ S4096x1024.size a) (y : S4096x1024.Idx) {d k : ℕ} (h : off = ![1024 * d, k])
    (h0 : (y (0 : Fin 2)).val / 1024 = d) (h1 : k ≤ (y (1 : Fin 2)).val ∧ (y (1 : Fin 2)).val < k + 512) :
    y ∈ (Rect.unit (s := S4096x1024) off S1024x512.size inb).set := by
  subst h
  refine Rect.mem_set_unit.mpr fun a => ?_
  match a with
  | ⟨0, _⟩ =>
    show 1024 * d ≤ (y (0 : Fin 2)).val ∧ (y (0 : Fin 2)).val < 1024 * d + 1024
    omega
  | ⟨1, _⟩ =>
    show k ≤ (y (1 : Fin 2)).val ∧ (y (1 : Fin 2)).val < k + 512
    exact h1

/-- Every device is reached going forwards, and going backwards, in at most three steps. -/
theorem reach_prv : ∀ c d : Dev nD, d = prv (prv (prv c)) ∨ d = prv (prv c) ∨ d = prv c ∨ d = c := by decide +kernel
theorem reach_nxt : ∀ c d : Dev nD, d = nxt (nxt (nxt c)) ∨ d = nxt (nxt c) ∨ d = nxt c ∨ d = c := by decide +kernel

/-- The pieces device `c` stores cover its result. -/
theorem outW_cover (c : Dev nD) (y : S4096x1024.Idx) : ∃ p ∈ outW m ρ c, y ∈ p.1.set := by
  have hr : (y (0 : Fin 2)).val < 4096 := (y (0 : Fin 2)).isLt
  have hc : (y (1 : Fin 2)).val < 1024 := (y (1 : Fin 2)).isLt
  have hd : (y (0 : Fin 2)).val / 1024 < 4 := by omega
  have hl : (outW m ρ c).length = 8 := rfl
  by_cases hk : (y (1 : Fin 2)).val < 512
  · rcases reach_prv c ⟨(y (0 : Fin 2)).val / 1024, hd⟩ with h | h | h | h
    · exact ⟨(outW m ρ c)[1], List.getElem_mem _, mem_piece (k0_off3_inb c 4) y (off3_at3 c) (congrArg Fin.val h) ⟨Nat.zero_le _, by omega⟩⟩
    · exact ⟨(outW m ρ c)[3], List.getElem_mem _, mem_piece (k0_off3_inb c 3) y (off3_at2 c) (congrArg Fin.val h) ⟨Nat.zero_le _, by omega⟩⟩
    · exact ⟨(outW m ρ c)[5], List.getElem_mem _, mem_piece (k0_off3_inb c 2) y (off3_at1 c) (congrArg Fin.val h) ⟨Nat.zero_le _, by omega⟩⟩
    · exact ⟨(outW m ρ c)[7], List.getElem_mem _, mem_piece (k0_off5_inb c) y (off5_at c) (congrArg Fin.val h) ⟨Nat.zero_le _, by omega⟩⟩
  · rcases reach_nxt c ⟨(y (0 : Fin 2)).val / 1024, hd⟩ with h | h | h | h
    · exact ⟨(outW m ρ c)[0], List.getElem_mem _, mem_piece (k0_off4_inb c 4) y (off4_at3 c) (congrArg Fin.val h) ⟨by omega, by omega⟩⟩
    · exact ⟨(outW m ρ c)[2], List.getElem_mem _, mem_piece (k0_off4_inb c 3) y (off4_at2 c) (congrArg Fin.val h) ⟨by omega, by omega⟩⟩
    · exact ⟨(outW m ρ c)[4], List.getElem_mem _, mem_piece (k0_off4_inb c 2) y (off4_at1 c) (congrArg Fin.val h) ⟨by omega, by omega⟩⟩
    · exact ⟨(outW m ρ c)[6], List.getElem_mem _, mem_piece (k0_off6_inb c) y (off6_at c) (congrArg Fin.val h) ⟨by omega, by omega⟩⟩

/-- What device `c`'s result holds after the body. -/
def outAt (c : Dev nD) : (cc0_stg2_0 : Ref sig .tc).ty.Contents (Elt F) := View.canon (outW m ρ c)

/-- Whatever the result's buffer held, after the eight stores it holds that. -/
theorem outAt_eq (c : Dev nD) (f : (cc0_stg2_0 : Ref sig .tc).ty.Contents (Elt F)) :
    (oM : Memref sig .tc .vmem S4096x1024 .f32).view.writes (Elt F) f (outW m ρ c) = outAt m ρ c := by
  unfold outAt
  rw [← View.read_writes_eq_canon (Val := Elt F) (oM : Memref sig .tc .vmem S4096x1024 .f32).view f (outW m ρ c) (outW_cover m ρ c)]
  exact (View.read_whole (Val := Elt F) cc0_stg2_0 _).symm

/-! ## A buffer and its slots -/

omit [FloatOps F] in
/-- A slot at some contents is its rectangle of the buffer at some contents. -/
theorem slot_sat (c : Dev nD) (l s : Fin 4) :
    slotAny (F := F) c l s ⊣⊢ (ownsSat (c : Thread nD τ) ((bufM l).slice (slotR s) (fun _ => rfl)) fullShare (fun _ => True) : sProp 𝕄) := by
  unfold slotAny slot ownsTc owns ownsSat
  constructor
  · iintro ⟨%X, %f, -, H⟩
    iexists f
    isplitr; · ipureintro; trivial
    iapply (Entails.of_eq (congrArg (fun S => (((bufM l).view.loc (c : Thread nD τ)) ↦[S]{fullShare} f : sProp 𝕄)) (slot_set l s))) $$ H
  · iintro ⟨%f, -, H⟩
    iexists _
    iexists f
    isplitr; · ipureintro; rfl
    iapply (Entails.of_eq (congrArg (fun S => (((bufM l).view.loc (c : Thread nD τ)) ↦[S]{fullShare} f : sProp 𝕄)) (slot_set l s).symm)) $$ H

theorem slotR_disjoint (s s' : Fin 4) (h : s ≠ s') : Disjoint (slotR s).set (slotR s').set :=
  Ring.lead_disjoint (s := S4x1024x512) (0 : Fin 3) 1 (fun s : Fin 4 => ![s.val, 0, 0]) S1x1024x512.size slot_inb (fun s => (Nat.one_mul _).symm) rfl s s' h
theorem slotR_cover : Finset.univ.biUnion (fun s => (slotR s).set) = Finset.univ :=
  Ring.lead_cover (s := S4x1024x512) (0 : Fin 3) 1 (fun s : Fin 4 => ![s.val, 0, 0]) S1x1024x512.size slot_inb (fun s => (Nat.one_mul _).symm)
    (by decide) rfl (by decide) rfl

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A buffer at some contents is its four slots at some contents. -/
theorem slots_sat (c : Dev nD) (l : Fin 4) :
    (ownsSat (c : Thread nD τ) (bufM l) fullShare (fun _ => True) : sProp 𝕄) ⊣⊢ slots (F := F) c l := by
  have e : (bigSep Finset.univ fun s => slotAny (F := F) c l s : sProp 𝕄) = slots (F := F) c l := bigSep_fin4 _
  rw [← e]
  constructor
  · refine (ownsSat_mono _ _ _ fun _ _ _ => trivial).trans ((ownsSat_rects (c : Thread nD τ) (bufM l) fullShare slotR (fun _ _ => rfl)
      slotR_disjoint slotR_cover fun _ _ => True).trans (bigSep_mono fun s _ => (slot_sat c l s).2))
  · refine (bigSep_mono fun s _ => (slot_sat c l s).1).trans ((ownsSat_of_rects (c : Thread nD τ) (bufM l) fullShare slotR (fun _ _ => rfl)
      slotR_disjoint slotR_cover fun _ _ => True).trans (ownsSat_mono _ _ _ fun _ _ => trivial))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
/-- A whole buffer at some contents, in the words of the launch. -/
theorem whole_sat (c : Dev nD) (b : Ref sig .tc) :
    (ownsSat (Ix := Unit) (Name := ℕ) (U := UU) (Lvl := ℕ) (c : Thread nD τ) (Memref.whole b) fullShare (fun _ => True) : sProp 𝕄)
      ⊣⊢ iprop(∃ f : Buf (Elt F) (((c : Dev nD) : Thread nD τ).loc b), (((c : Thread nD τ).loc b) ↦{fullShare} f)) := by
  unfold ownsSat; simp only [Memref.view_whole, View.set_whole]
  constructor
  · iintro ⟨%f, -, H⟩; iexists f; iexact H
  · iintro ⟨%f, H⟩; iexists f
    isplitr; · ipureintro; trivial
    iexact H

/-- The scratch buffers of a device are its sixteen slots and the buffer of `W`'s copy. -/
theorem scratch_eq (c : Dev nD) :
    (Pipeline.scopedRest (Ix := Unit) (Name := ℕ) (U := UU) (Lvl := ℕ) (Val := Elt F) cfg0.spec c : sProp 𝕄) ⊣⊢ iprop(bAny (F := F) c ∗ slotsAll (F := F) c) := by
  rw [scopedRest0_eq]
  unfold bAny slotsAll
  constructor
  · iintro ⟨H0, H1, H2, H3, H4⟩
    isplitl [H0]; · iexact H0
    isplitl [H1]; · iapply ((whole_sat c cc0_scratch1).2.trans (slots_sat c 0).1) $$ H1
    isplitl [H2]; · iapply ((whole_sat c cc0_scratch2).2.trans (slots_sat c 1).1) $$ H2
    isplitl [H3]; · iapply ((whole_sat c cc0_scratch3).2.trans (slots_sat c 2).1) $$ H3
    iapply ((whole_sat c cc0_scratch4).2.trans (slots_sat c 3).1) $$ H4
  · iintro ⟨H0, H1, H2, H3, H4⟩
    isplitl [H0]; · iexact H0
    isplitl [H1]; · iapply ((slots_sat c 0).2.trans (whole_sat c cc0_scratch1).1) $$ H1
    isplitl [H2]; · iapply ((slots_sat c 1).2.trans (whole_sat c cc0_scratch2).1) $$ H2
    isplitl [H3]; · iapply ((slots_sat c 2).2.trans (whole_sat c cc0_scratch3).1) $$ H3
    iapply ((slots_sat c 3).2.trans (whole_sat c cc0_scratch4).1) $$ H4

/-! ## The cells of a device -/

/-- The kernel's own semaphores, as the launch lists them. -/
def osem (k : Fin 32) : SemLoc sig := .dma (dsem k)

theorem ownSemFacts : Pipeline.OwnSemFacts cfg0.spec osem := by decide

/-- The semaphores no transfer uses. -/
def idle : Finset (Fin 32) := {3, 4, 11, 12, 19, 20, 27, 28}

theorem role_idle : ∀ k ∈ idle, role (dsem k) = none := by decide +kernel

theorem own_split : (Finset.univ : Finset (Fin 32)) = Finset.univ.map ⟨sIx, sIx_inj⟩ ∪ (Finset.univ.map ⟨rIx, rIx_inj⟩ ∪ idle) := by decide +kernel
theorem erase_none : (Finset.univ : Finset (Option (Fin 32))).erase none = Finset.univ.map ⟨some, Option.some_injective _⟩ := by decide +kernel
theorem own_disjoint : Disjoint (Finset.univ.map ⟨sIx, sIx_inj⟩) (Finset.univ.map ⟨rIx, rIx_inj⟩ ∪ idle) := by decide +kernel
theorem own_disjoint' : Disjoint (Finset.univ.map ⟨rIx, rIx_inj⟩) idle := by decide +kernel

omit [FloatOps F] in
/-- Something of every cell of a device is that of its barrier cell, of the send cells, of the receive cells and of the idle ones. -/
theorem bigSep_cells (Φ : Option (Fin 32) → sProp 𝕄) :
    bigSep Finset.univ Φ = iprop(Φ none ∗ (bigSep Finset.univ fun n : Fin 12 => Φ (some (sIx n)))
      ∗ (bigSep Finset.univ fun n : Fin 12 => Φ (some (rIx n))) ∗ bigSep idle fun k => Φ (some k)) := by
  rw [bigSep_univ_at Φ none, erase_none, bigSep_map, own_split, bigSep_union own_disjoint, bigSep_union own_disjoint', bigSep_map, bigSep_map]
  rfl

/-! ## What a device holds at either end of its region -/

/-- What stays with device `c` when the tokens have been dealt: its positions, and the tokens of the duties it pays. -/
def linear (c : Dev nD) : sProp 𝕄 :=
  iprop(atPos ER (barCell c) 0 ∅ 0 ∗ dutyTok ER (barCell (prv c)) 0 true ∗ dutyTok ER (barCell (nxt c)) 0 false
    ∗ (bigSep Finset.univ fun n => tk (F := F) c n) ∗ (bigSep Finset.univ fun n => atPos ER (rCell c n) 0 ∅ 0)
    ∗ bigSep idle fun k => atPos ER (kcell (c, some k)) 0 ∅ 0)
/-- With the records of all the cells. -/
def G' (c : Dev nD) : sProp 𝕄 := iprop(∃ K, records m ρ K ∗ linear (F := F) c)
/-- The credits the others owe it. -/
def credIn (c : Dev nD) : sProp 𝕄 :=
  iprop(cred (tallyAt (barCell c) () 2) ∗ bigSep Finset.univ fun n : Fin 12 => cred (tallyAt (rCell c n) () N))
def start (c : Dev nD) : sProp 𝕄 := iprop(G' m ρ c ∗ credIn (F := F) c ∗ levAts L lv)
def Φ₀ (c : Dev nD) : sProp 𝕄 := iprop(start m ρ c ∗ Pipeline.scopedRest cfg0.spec c)
/-- At the end: the scratch buffers, and every counter at zero. -/
def Φ₁ (c : Dev nD) : sProp 𝕄 :=
  iprop((bigSep Finset.univ fun k : Option (Fin 32) => semVal (kcell (c, k)) 0) ∗ Pipeline.scopedRest cfg0.spec c)

/-- The proof data of the one region: what each window's staging buffer holds after the body, what the body is handed and
    hands back, what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ts m ρ c
    | ⟨1, _⟩ => ws m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (ts m ρ c) ∗ stg c cc0_stg1_0 (ws m ρ c) ∗ stg c cc0_stg2_0 (outAt m ρ c))

/-- The idle cells close at once: nothing is ever due there. -/
theorem idle_close (K : Dev nD × Option (Fin 32) → ℕ) (c : Dev nD) :
    iprop(records m ρ K ∗ bigSep idle fun k => (atPos ER (kcell (c, some k)) 0 ∅ 0 : sProp 𝕄))
      ⊢ |={Set.univ}=> bigSep idle fun k => (semVal (kcell (c, some k)) 0 : sProp 𝕄) :=
  (bigSep_with_persistent (R := records m ρ K) fun k hk =>
    (sep_mono_left (inv_at m ρ K (c, some k))).trans
      (Rounds.cell_close ER (Rd m ρ) (Set.mem_univ _) (fun h => h) (R := 0) (duties_none m ρ c (role_idle k hk)))).trans (bigSep_fupd _ _)

omit [FloatOps F] in
/-- The tokens of the transfers, and the receive positions with the credits, one by one. -/
theorem kit_intro (c : Dev nD) :
    iprop((bigSep Finset.univ fun n => tk (F := F) c n) ∗ (bigSep Finset.univ fun n => (atPos ER (rCell c n) 0 ∅ 0 : sProp 𝕄))
        ∗ bigSep Finset.univ fun n : Fin 12 => (cred (tallyAt (rCell c n) () N) : sProp 𝕄)) ⊢ kitIn (F := F) c := by
  rw [← bigSep_sep', show (bigSep Finset.univ fun n : Fin 12 => iprop(atPos ER (rCell c n) 0 ∅ 0 ∗ cred (tallyAt (rCell c n) () N)) : sProp 𝕄)
    = bigSep Finset.univ fun n => vk (F := F) c n from rfl, bigSep_fin12, bigSep_fin12]
  exact BI.Entails.refl _

omit [FloatOps F] in
/-- Every counter at zero. -/
theorem zeros_all (c : Dev nD) :
    iprop(zeros (F := F) c ∗ bigSep idle fun k => (semVal (kcell (c, some k)) 0 : sProp 𝕄))
      ⊢ bigSep Finset.univ fun k : Option (Fin 32) => (semVal (kcell (c, k)) 0 : sProp 𝕄) := by
  rw [bigSep_cells, bigSep_fin12, bigSep_fin12]
  unfold zeros
  iintro ⟨⟨HB, HS, HV⟩, HI⟩
  isplitl [HB]; · iexact HB
  isplitl [HS]; · iexact HS
  isplitl [HV]; · iexact HV
  iexact HI

set_option maxRecDepth 32000 in
set_option maxHeartbeats 1000000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ bodyWp c (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scratch9 cc0_scratch10 cc0_scratch11 cc0_scratch12) (fun _ => bodyPost m ρ c)
  unfold bodyPre Φ₀ start G' linear credIn
  iintro ⟨⟨⟨⟨%K, #HR, Hba, Hbt, Hbf, Htk, Hat, Hid⟩, ⟨Hcb, Hcr⟩, #HL⟩, Hscr⟩, Ho, ⟨%d0, %g0, %hg0, Hx⟩, ⟨%d1, %g1, %hg1, Hw⟩, ⟨%d2, %g2, %hg2, Hout⟩⟩
  have hx : g0 = ts m ρ c := by rw [hg0]; unfold Dat.before; rw [if_pos (fetch0_0 t0_0)]; rfl
  have hw : g1 = ws m ρ c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  ihave Hs := (scratch_eq (F := F) c).1 $$ Hscr
  icases Hs with ⟨Hb, Hsl⟩
  imod (idle_close m ρ K c) $$ [Hid] with Hz
  · isplitr; · iexact HR
    iexact Hid
  iapply (body_run m ρ K c fun _ => bodyPost m ρ c)
  isplitr [Hz]
  · unfold bodyIn barIn
    isplitr; · iexact HR
    isplitr; · iexact HL
    isplitl [Hba Hcb Hbt Hbf]
    · iframe ∗
    isplitl [Htk Hat Hcr]
    · iapply (kit_intro (F := F) c) $$ [Htk Hat Hcr]
      iframe ∗
    isplitl [Hsl]; · iexact Hsl
    isplitl [Hb]; · iexact Hb
    isplitl [HO]; · unfold ow; iexists W; iexact HO
    isplitl [Hx]; · unfold tPts; iexact Hx
    isplitl [Hw]; · unfold wPts; iexact Hw
    unfold oPts; iexists g2; iexact Hout
  · unfold bodyOut bodyPost Φ₁ ow oPts tPts wPts
    iintro ⟨Hsl, Hb, ⟨%W', HO⟩, Hx, Hw, ⟨%f, Hout⟩, Hze⟩
    isplitl [Hsl Hb Hz Hze]
    · isplitl [Hz Hze]
      · iapply (zeros_all (F := F) c) $$ [Hz Hze]
        iframe ∗
      · iapply (scratch_eq (F := F) c).2 $$ [Hsl Hb]
        iframe ∗
    isplitl [HO]
    · unfold Dat.owesAt Pipeline.owesWithin
      rw [show (dats m ρ 0 c).owed t0_0.succ = 0 from rfl]
      iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; exact outAt_eq m ρ c f)
    iexact Hout

end Cert.KProof
end
-- ==== Proof.Run.lean ====
module

public import proofs.«01_k».proof.Proof.Launch
public import Idealize.ShloMosaic.Lib.Pipeline.CollectiveSegs

@[expose] public section
/-! # The run of the whole program

The semaphores of all the devices become the cells of the protocol under one update; the duty tokens are dealt to the
devices that pay the duties, and the credits to the devices that are owed them; with the body's obligation that is the run
of the program from any memory whose counters are zero. Everything here is stated for any float values `F`. -/

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem share_eq (c : Dev nD) (w : Fin cfg0.W) : (dats m ρ 0 c).share w = fullShare := by unfold Dat.share; split <;> rfl

theorem csem_injective : Function.Injective csem := by
  intro k k' h
  match k, k' with
  | none, none => rfl
  | none, some _ => cases h
  | some _, none => cases h
  | some a, some b =>
    have e : dsem a = dsem b := SemLoc.dma.inj h
    have e' : 3 + a.val = 3 + b.val := congrArg Fin.val e
    exact congrArg some (Fin.ext (by omega))

theorem kcell_injective : Function.Injective (kcell : Dev nD × Option (Fin 32) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The cells of the protocol, on every device. -/
def allCells : Finset (GSem nD τ sig) := Finset.univ.map ⟨kcell, kcell_injective⟩

/-- A duty token of every cell under either name is minted; the ones no duty answers to are dropped. -/
abbrev tokOf (x : Dev nD × Option (Fin 32) × Bool) : GSem nD τ sig × ℕ × Bool := (kcell (x.1, x.2.1), 0, x.2.2)
theorem tokOf_injective : Function.Injective tokOf := by
  rintro ⟨c, k, b⟩ ⟨c', k', b'⟩ h
  have h1 := kcell_injective (congrArg Prod.fst h)
  have h2 : b = b' := congrArg (fun x : GSem nD τ sig × ℕ × Bool => x.2.2) h
  cases h1; cases h2; rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 := bigSep Finset.univ fun kb : Option (Fin 32) × Bool => dutyTok ER (kcell (c, kb.1)) 0 kb.2

/-- What the launch element deals device `c`. -/
def G (c : Dev nD) : sProp 𝕄 :=
  iprop((bigSep Finset.univ fun k => roundState ER (Rd m ρ) (kcell (c, k)) 0)
    ∗ (bigSep Finset.univ fun k => iprop(atPos ER (kcell (c, k)) 0 ∅ 0 ∗ reached ER (kcell (c, k)) 0)) ∗ toks (F := F) c)

/-- The launch element pays for the states, the positions and the tokens of all the cells. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks toks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe ∗

omit [FloatOps F] in
/-- The semaphores of a device at zero: the kernel's own, and the runtime's barrier. -/
theorem sems0_eq (c : Dev nD) :
    iprop(Pipeline.ownSems0 (Ix := Unit) (Name := ℕ) (U := UU) (Lvl := ℕ) (Val := Elt F) (τ := τ) osem c ∗ unscopedSems0 c)
      ⊣⊢ (bigSep Finset.univ fun k => semVal (kcell (c, k)) 0 : sProp 𝕄) := by
  have hu : (unscopedSems0 c : sProp 𝕄) = semVal (barCell c) 0 := by
    unfold unscopedSems0; rw [bigSep_eq_bigSepL_of_eq [SemLoc.reg barS] (by decide) (by decide)]; rfl
  rw [hu, bigSep_univ_at (fun k => (semVal (kcell (c, k)) 0 : sProp 𝕄)) none, erase_none, bigSep_map]
  unfold Pipeline.ownSems0
  constructor
  · iintro ⟨HO, HB⟩
    isplitl [HB]; · iexact HB
    iexact HO
  · iintro ⟨HB, HO⟩
    isplitl [HO]; · iexact HO
    iexact HB

/-- A device's semaphores become its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) := by
  have halloc : iprop((bigSep Finset.univ fun k => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Htok⟩
  ihave Hv := (sems0_eq (F := F) c).1 $$ [Hos Hus]
  · iframe ∗
  imod halloc $$ [Hv Hst] with Hinv
  · iframe ∗
  imodintro
  iframe ∗

/-! ## The tokens dealt -/

/-- The tokens of device `c`'s own cells that name a duty. -/
def toksOwn (c : Dev nD) : sProp 𝕄 :=
  iprop(dutyTok ER (barCell c) 0 true ∗ dutyTok ER (barCell c) 0 false
    ∗ (bigSep Finset.univ fun n => dutyTok ER (sCell c n) 0 false) ∗ bigSep Finset.univ fun n => dutyTok ER (rCell c n) 0 false)
/-- The tokens of the duties device `c` pays. -/
def toksPay (c : Dev nD) : sProp 𝕄 :=
  iprop(dutyTok ER (barCell (prv c)) 0 true ∗ dutyTok ER (barCell (nxt c)) 0 false
    ∗ (bigSep Finset.univ fun n => dutyTok ER (sCell c n) 0 false) ∗ bigSep Finset.univ fun n => dutyTok ER (rCell (way n c) n) 0 false)

omit [FloatOps F] in
theorem toks_own (c : Dev nD) : toks (F := F) c ⊢ toksOwn (F := F) c := by
  unfold toks toksOwn
  rw [bigSep_univ_prod, bigSep_cells]
  have hb (k : Option (Fin 32)) : (bigSep Finset.univ fun b : Bool => (dutyTok ER (kcell (c, k)) 0 b : sProp 𝕄))
      = iprop(dutyTok ER (kcell (c, k)) 0 true ∗ dutyTok ER (kcell (c, k)) 0 false) :=
    bigSep_univ_eq_bigSepL [true, false] (by decide) (by decide) _
  have hf (k : Option (Fin 32)) : (bigSep Finset.univ fun b : Bool => (dutyTok ER (kcell (c, k)) 0 b : sProp 𝕄)) ⊢ dutyTok ER (kcell (c, k)) 0 false :=
    bigSep_elim (Finset.mem_univ false)
  have hm (f : Fin 12 → Fin 32) : (bigSep Finset.univ fun n : Fin 12 => bigSep Finset.univ fun b : Bool => (dutyTok ER (kcell (c, some (f n))) 0 b : sProp 𝕄))
      ⊢ bigSep Finset.univ fun n : Fin 12 => (dutyTok ER (kcell (c, some (f n))) 0 false : sProp 𝕄) := bigSep_mono fun n _ => hf (some (f n))
  iintro ⟨HB, HS, HV, -⟩
  ihave HB := (Entails.of_eq (hb none)) $$ HB
  icases HB with ⟨H1, H2⟩
  isplitl [H1]; · iexact H1
  isplitl [H2]; · iexact H2
  isplitl [HS]
  · iapply (hm sIx) $$ HS
  · iapply (hm rIx) $$ HV

omit [FloatOps F] in
/-- Each token goes to the device that pays its duty: a barrier's to the two neighbours, a receive cell's to the sender. -/
theorem toks_around : (bigSep Finset.univ fun c : Dev nD => (toksOwn (F := F) c : sProp 𝕄)) ⊢ bigSep Finset.univ fun c : Dev nD => toksPay (F := F) c := by
  have hr : (bigSep Finset.univ fun c : Dev nD => bigSep Finset.univ fun n : Fin 12 => (dutyTok ER (rCell c n) 0 false : sProp 𝕄))
      = bigSep Finset.univ fun c : Dev nD => bigSep Finset.univ fun n : Fin 12 => (dutyTok ER (rCell (way n c) n) 0 false : sProp 𝕄) := by
    rw [bigSep_univ_comm, bigSep_congr (s := Finset.univ) (fun (n : Fin 12) _ => bigSep_univ_equiv (way n) (fun c : Dev nD => (dutyTok ER (rCell c n) 0 false : sProp 𝕄))),
      bigSep_univ_comm]
  unfold toksOwn toksPay
  simp only [bigSep_sep']
  rw [hr, bigSep_univ_equiv ring.symm (fun c : Dev nD => (dutyTok ER (barCell c) 0 true : sProp 𝕄)),
    bigSep_univ_equiv ring (fun c : Dev nD => (dutyTok ER (barCell c) 0 false : sProp 𝕄))]
  exact BI.Entails.refl _

omit [FloatOps F] in
/-- A device's positions and the tokens of the duties it pays are what stays with it. -/
theorem linear_intro (c : Dev nD) :
    iprop((bigSep Finset.univ fun k => (atPos ER (kcell (c, k)) 0 ∅ 0 : sProp 𝕄)) ∗ toksPay (F := F) c) ⊢ linear (F := F) c := by
  unfold toksPay linear tk
  rw [bigSep_cells]
  simp only [bigSep_sep']
  iintro ⟨⟨HaB, HaS, HaV, HaI⟩, HtB, HtF, HtS, HtV⟩
  isplitl [HaB]; · iexact HaB
  isplitl [HtB]; · iexact HtB
  isplitl [HtF]; · iexact HtF
  isplitl [HtS HtV HaS]
  · isplitl [HtS]; · iexact HtS
    isplitl [HtV]; · iexact HtV
    iexact HaS
  isplitl [HaV]; · iexact HaV
  iexact HaI

/-- The cells of all the devices are recorded for each of them, and the tokens are dealt. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m ρ) := by
  have ht : (bigSep Finset.univ fun c : Dev nD => toks (F := F) c) ⊢ bigSep Finset.univ fun c : Dev nD => toksPay (F := F) c :=
    (bigSep_mono fun c _ => toks_own (F := F) c).trans (toks_around (F := F))
  simp only [bigSep_sep']
  rw [← bigSep_univ_prod (fun ck : Dev nD × Option (Fin 32) => iprop(∃ κ : ℕ, cellInv ER (Rd m ρ) κ (kcell ck))),
    ← bigSep_univ_prod (fun ck : Dev nD × Option (Fin 32) => (reached ER (kcell ck) 0 : sProp 𝕄))]
  iintro ⟨HI, ⟨Hat, #HR⟩, Htok⟩
  ihave HK := (BI.bigSep_exists_pi Finset.univ (fun (ck : Dev nD × Option (Fin 32)) (κ : ℕ) => (cellInv ER (Rd m ρ) κ (kcell ck) : sProp 𝕄))) $$ HI
  icases HK with ⟨%K, #HI⟩
  ihave Htk := ht $$ Htok
  iapply (bigSep_with_persistent (S := Finset.univ) (R := records m ρ K) (Φ := fun c : Dev nD => linear (F := F) c) (Ψ := G' m ρ) fun c _ => by
    unfold G'; iintro ⟨H1, H2⟩; iexists K; isplitl [H1]; · iexact H1
    iexact H2)
  isplitr
  · unfold records; isplitl; · iexact HI
    iexact HR
  · iapply ((Entails.of_eq (bigSep_sep' Finset.univ (fun c : Dev nD => bigSep Finset.univ fun k => (atPos ER (kcell (c, k)) 0 ∅ 0 : sProp 𝕄)) (fun c => toksPay (F := F) c)).symm).trans
      (bigSep_mono fun c _ => linear_intro (F := F) c))
    isplitl [Hat]; · iexact Hat
    iexact Htk

/-- The launch's global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : barCell a = barCell b ↔ a = b := ⟨fun h => congrArg (fun g : GSem nD τ sig => g.1.1) h, fun h => h ▸ rfl⟩
theorem recv_eq_iff {a b : Dev nD} {n k : Fin 12} : rCell a n = rCell b k ↔ a = b ∧ n = k := by
  constructor
  · intro h
    have e := kcell_injective (a₁ := (a, some (rIx n))) (a₂ := (b, some (rIx k))) h
    exact ⟨congrArg Prod.fst e, rIx_inj (Option.some.inj (congrArg Prod.snd e))⟩
  · rintro ⟨rfl, rfl⟩; rfl
theorem recv_ne_bar {a b : Dev nD} {n : Fin 12} : rCell a n ≠ barCell b := fun h => by cases congrArg Prod.snd h

/-- What device `d` owes device `c`'s barrier: a unit if it is the device after `c`, a unit if it is the one before. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, Os_apply,
    Finset.sum_eq_zero fun n _ => by rw [tallyAt_apply, if_neg fun h => recv_ne_bar h.1.symm], Nat.zero_add, tallyAt_apply, tallyAt_apply]
  have e1 : (c = nxt d) = (d = prv c) := propext ⟨fun h => by rw [h, prv_nxt], fun h => by rw [h, nxt_prv]⟩
  have e2 : (c = prv d) = (d = nxt c) := propext ⟨fun h => by rw [h, nxt_prv], fun h => by rw [h, prv_nxt]⟩
  simp only [bar_eq_iff, and_true, e1, e2]

/-- What it owes device `c`'s receive cell of transfer `n`: the transfer's units if it is the one that sends it. -/
theorem owed_recv (d c : Dev nD) (n : Fin 12) : O₀ d (rCell c n) () = if d = (way n).symm c then N else 0 := by
  unfold O₀ O₁
  rw [Pi.add_apply, Finsupp.add_apply, Pi.add_apply, Finsupp.add_apply, Os_apply, tallyAt_ne_cell recv_ne_bar, tallyAt_ne_cell recv_ne_bar,
    Finsupp.zero_apply, Nat.add_zero, Nat.add_zero, Finset.sum_eq_single n]
  · rw [tallyAt_apply]
    have e : (c = way n d) = (d = (way n).symm c) := propext (Equiv.eq_symm_apply _ |>.symm |> fun h => ⟨fun h' => h.mp h'.symm, fun h' => (h.mpr h').symm⟩)
    simp only [recv_eq_iff, and_true, e]
  · intro k _ hk
    rw [tallyAt_apply, if_neg fun h => hk (recv_eq_iff.mp h.1).2.symm]
  · intro h; exact (h (Finset.mem_filter.mpr ⟨Finset.mem_univ _, Nat.zero_le _⟩)).elim

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (n : Fin 12) :
    tallyOn (rCell c n) (launchCredit (Pipeline.owing O₀) 0 (rCell c n)) = (tallyAt (rCell c n) () N : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ ((way n).symm c) fun _ => N,
    if_pos (Finset.mem_univ _)]

omit [FloatOps F] in
/-- A device is owed two units at its barrier and every transfer's units at its receive cells. -/
theorem creds (c : Dev nD) : (Pipeline.launchCred O₀ c : sProp 𝕄) ⊢ credIn (F := F) c := by
  unfold Pipeline.launchCred credIn
  rw [bigSep_univ_at _ (SemLoc.reg barS), launch_bar]
  refine sep_mono_right ?_
  refine (bigSep_subset (t := Finset.univ.map ⟨fun n : Fin 12 => (SemLoc.dma (dsem (rIx n)) : SemLoc sig), fun a b h =>
    rIx_inj (Option.some.inj (csem_injective (a₁ := some (rIx a)) (a₂ := some (rIx b)) h))⟩) ?_).trans ?_
  · intro sm h
    obtain ⟨n, _, rfl⟩ := Finset.mem_map.mp h
    exact Finset.mem_erase.mpr ⟨fun h => (by cases h), Finset.mem_univ _⟩
  · rw [bigSep_map]
    exact bigSep_mono fun n _ => Entails.of_eq (congrArg (fun t => (cred t : sProp 𝕄)) (launch_recv c n))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · iframe ∗
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl]
  unfold Φ₁
  iintro ⟨Hz, Hr⟩
  ihave Hz := (sems0_eq (F := F) c).2 $$ Hz
  icases Hz with ⟨HO, HU⟩
  isplitl [HU]; · iexact HU
  isplitl [HO]; · iexact HO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What window `w`'s array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- On four devices, for any float values, from any memory with zero counters: every weakly fair execution of the program
    ends, and every final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The blocks of `t` after the run are what they were, -/
theorem finalA_t (c : Dev nD) : finalA m ρ c (0 : Fin 3) = (s₀ m ρ).mem ((c : Thread nD τ).loc main_arg0) :=
  (dats (F := F) m ρ 0 c).arrAt_in (0 : Fin 3) rfl _
/-- and so are the copies of `W`. -/
theorem finalA_W (c : Dev nD) : finalA m ρ c (1 : Fin 3) = (s₀ m ρ).mem ((c : Thread nD τ).loc main_arg1) :=
  (dats (F := F) m ρ 0 c).arrAt_in (1 : Fin 3) rfl _

/-- The arguments after the run, and the counters: the frame for any float values. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (0 : Fin 3)).trans (finalA_t m ρ c), (h.1 c (1 : Fin 3)).trans (finalA_W m ρ c)⟩, h.2⟩) (run_main m ρ)

end Cert.KProof
end
-- ==== Proof.Value.lean ====
module

public import proofs.«01_k».proof.Proof.Run
public import Idealize.ShloMosaic.Lib.MatmulPlain
public import Idealize.ShloMosaic.Lib.ValueIdx
public import Idealize.ShloMosaic.Lib.Pipeline.ValueKit.Geometry

@[expose] public section
/-! # What the kernel computes

Over the extended reals: every device ends with the product of the sum of the four devices' blocks of `t` and `W`. The
partial sums that travel around the ring are followed hop by hop at one index, then the product of the reduced block, then
the eight pieces that each device stores. -/

noncomputable section

namespace Cert.KProof

open Cert.KernelIdeal Cert.KernelIdeal.Gen

open Idealize.ShloMosaic
open Idealize.ShloMosaic.TcCoe
open Idealize.ShloMosaic.ValueIdx
open Idealize.SL.Sem
open scoped BigOperators

variable (m : (ℓ : Loc nD τ sig) → Buf (Elt Ideal) ℓ) (ρ : Dev nD → PrngReg)

/-! ## Indices -/

/-- Row `r` of the `d`-th quarter of the rows, column `k`. -/
abbrev row (d : Dev nD) (r : Fin 1024) (k : Fin 1024) : S4096x1024.Idx :=
  ix2 (n0 := 4096) (n1 := 1024) ⟨1024 * d.val + r.val, by have h : d.val < 4 := d.isLt; have := r.isLt; omega⟩ k

/-- Column `k` of the left half of the columns, -/
abbrev lo (k : Fin 512) : Fin 1024 := ⟨k.val, by have := k.isLt; omega⟩
/-- and of the right half. -/
abbrev hi (k : Fin 512) : Fin 1024 := ⟨512 + k.val, by have := k.isLt; omega⟩

theorem off1_at : ∀ c, k0_off1 c = ![1024 * (prv c).val, 0] := by decide +kernel
theorem off2_at : ∀ c, k0_off2 c = ![1024 * (nxt c).val, 512] := by decide +kernel
theorem off3_sum1 : ∀ c, k0_off3 c 2#32 0#32 = ![1024 * (prv (prv c)).val, 0] := by decide +kernel
theorem off3_sum2 : ∀ c, k0_off3 c 2#32 1#32 = ![1024 * (prv (prv (prv c))).val, 0] := by decide +kernel
theorem off4_sum1 : ∀ c, k0_off4 c 2#32 0#32 = ![1024 * (nxt (nxt c)).val, 512] := by decide +kernel
theorem off4_sum2 : ∀ c, k0_off4 c 2#32 1#32 = ![1024 * (nxt (nxt (nxt c))).val, 512] := by decide +kernel

/-- Where the block at a quarter of the rows and the left half of the columns has its entries, -/
theorem emb_lo {off : Fin 2 → ℕ} (h : ∀ a, off a + S1024x512.size a ≤ S4096x1024.size a) (d : Dev nD)
    (e : off = ![1024 * d.val, 0]) (r : Fin 1024) (k : Fin 512) :
    (Rect.unit (s := S4096x1024) off S1024x512.size h).emb (ix2 r k) = row d r (lo k) := by
  subst e
  funext a; apply Fin.ext
  refine (ValueKit.rect_emb_unit_val _ _ h (ix2 r k) a).trans ?_
  match a with
  | ⟨0, _⟩ => rfl
  | ⟨1, _⟩ => exact Nat.zero_add _

/-- and the one at the right half. -/
theorem emb_hi {off : Fin 2 → ℕ} (h : ∀ a, off a + S1024x512.size a ≤ S4096x1024.size a) (d : Dev nD)
    (e : off = ![1024 * d.val, 512]) (r : Fin 1024) (k : Fin 512) :
    (Rect.unit (s := S4096x1024) off S1024x512.size h).emb (ix2 r k) = row d r (hi k) := by
  subst e
  funext a; apply Fin.ext
  refine (ValueKit.rect_emb_unit_val _ _ h (ix2 r k) a).trans ?_
  match a with
  | ⟨0, _⟩ => rfl
  | ⟨1, _⟩ => rfl

/-- So a load of the first reads those entries of the device's block of `t`, -/
theorem tld_lo (c : Dev nD) {off : Fin 2 → ℕ} (h : ∀ a, off a + S1024x512.size a ≤ S4096x1024.size a) (d : Dev nD)
    (e : off = ![1024 * d.val, 0]) (r : Fin 1024) (k : Fin 512) : tld m ρ c off h (ix2 r k) = ts m ρ c (row d r (lo k)) :=
  congrArg (ts m ρ c) (emb_lo h d e r k)

/-- and of the second those. -/
theorem tld_hi (c : Dev nD) {off : Fin 2 → ℕ} (h : ∀ a, off a + S1024x512.size a ≤ S4096x1024.size a) (d : Dev nD)
    (e : off = ![1024 * d.val, 512]) (r : Fin 1024) (k : Fin 512) : tld m ρ c off h (ix2 r k) = ts m ρ c (row d r (hi k)) :=
  congrArg (ts m ρ c) (emb_hi h d e r k)

theorem wb_eq (c : Dev nD) : wb m ρ c = ws m ρ c := by
  simp only [wb, k0_pay3, shapeCast_self]

/-- The left half of the columns of `W`, as loaded, -/
theorem wld_lo (c : Dev nD) (k : Fin 1024) (q : Fin 512) :
    wld m ρ c ![0, 0] inb_S1024x1024_S1024x512_0_0 (ix2 k q) = ws m ρ c (ix2 (n0 := 1024) (n1 := 1024) k (lo q)) := by
  rw [← wb_eq]
  refine congrArg (wb m ρ c) (funext fun a => Fin.ext ?_)
  refine (ValueKit.rect_emb_unit_val (s := S1024x1024) ![0, 0] S1024x512.size inb_S1024x1024_S1024x512_0_0 (ix2 k q) a).trans ?_
  match a with
  | ⟨0, _⟩ => exact Nat.zero_add _
  | ⟨1, _⟩ => exact Nat.zero_add _

/-- and the right half. -/
theorem wld_hi (c : Dev nD) (k : Fin 1024) (q : Fin 512) :
    wld m ρ c ![0, 512] inb_S1024x1024_S1024x512_0_512 (ix2 k q) = ws m ρ c (ix2 (n0 := 1024) (n1 := 1024) k (hi q)) := by
  rw [← wb_eq]
  refine congrArg (wb m ρ c) (funext fun a => Fin.ext ?_)
  refine (ValueKit.rect_emb_unit_val (s := S1024x1024) ![0, 512] S1024x512.size inb_S1024x1024_S1024x512_0_512 (ix2 k q) a).trans ?_
  match a with
  | ⟨0, _⟩ => exact Nat.zero_add _
  | ⟨1, _⟩ => rfl

/-! ## The partial sums -/

theorem A0_apply (c : Dev nD) (r : Fin 1024) (k : Fin 512) : A0 m ρ c (ix2 r k) = ts m ρ c (row (prv c) r (lo k)) := by
  simp only [A0, sq, k0_pay1, shapeCast_shapeCast, shapeCast_self]
  exact tld_lo m ρ c _ _ (off1_at c) r k

theorem A1_apply (c : Dev nD) (r : Fin 1024) (k : Fin 512) :
    A1 m ρ c (ix2 r k) = A0 m ρ (prv c) (ix2 r k) + ts m ρ c (row (prv (prv c)) r (lo k)) := by
  simp only [A1, sq, usq, k0_pay4, shapeCast_shapeCast, shapeCast_self]
  exact congrArg (A0 m ρ (prv c) (ix2 r k) + ·) (tld_lo m ρ c _ _ (off3_sum1 c) r k)

theorem A2_apply (c : Dev nD) (r : Fin 1024) (k : Fin 512) :
    A2 m ρ c (ix2 r k) = A1 m ρ (prv c) (ix2 r k) + ts m ρ c (row (prv (prv (prv c))) r (lo k)) := by
  simp only [A2, sq, usq, k0_pay7, k0_pay8, shapeCast_shapeCast, shapeCast_self]
  exact congrArg (A1 m ρ (prv c) (ix2 r k) + ·) (tld_lo m ρ c _ _ (off3_sum2 c) r k)

theorem B0_apply (c : Dev nD) (r : Fin 1024) (k : Fin 512) : B0 m ρ c (ix2 r k) = ts m ρ c (row (nxt c) r (hi k)) := by
  simp only [B0, sq, k0_pay2, shapeCast_shapeCast, shapeCast_self]
  exact tld_hi m ρ c _ _ (off2_at c) r k

theorem B1_apply (c : Dev nD) (r : Fin 1024) (k : Fin 512) :
    B1 m ρ c (ix2 r k) = B0 m ρ (nxt c) (ix2 r k) + ts m ρ c (row (nxt (nxt c)) r (hi k)) := by
  simp only [B1, sq, usq, k0_pay5, k0_pay6, shapeCast_shapeCast, shapeCast_self]
  exact congrArg (B0 m ρ (nxt c) (ix2 r k) + ·) (tld_hi m ρ c _ _ (off4_sum1 c) r k)

theorem B2_apply (c : Dev nD) (r : Fin 1024) (k : Fin 512) :
    B2 m ρ c (ix2 r k) = B1 m ρ (nxt c) (ix2 r k) + ts m ρ c (row (nxt (nxt (nxt c))) r (hi k)) := by
  simp only [B2, sq, usq, k0_pay9, shapeCast_shapeCast, shapeCast_self]
  exact congrArg (B1 m ρ (nxt c) (ix2 r k) + ·) (tld_hi m ρ c _ _ (off4_sum2 c) r k)

/-- The sum of the four devices' blocks of `t`. -/
def total (x : S4096x1024.Idx) : EReal := ∑ i : Dev nD, (ts m ρ i x : EReal)

theorem prv_four : ∀ c : Dev nD, prv (prv (prv (prv c))) = c := by decide
theorem nxt_four : ∀ c : Dev nD, nxt (nxt (nxt (nxt c))) = c := by decide

theorem dev_cases : ∀ c : Dev nD, c = 0 ∨ c = 1 ∨ c = 2 ∨ c = 3 := by decide
theorem prv_vals : prv (0 : Dev nD) = 3 ∧ prv (1 : Dev nD) = 0 ∧ prv (2 : Dev nD) = 1 ∧ prv (3 : Dev nD) = 2 := by decide
theorem nxt_vals : nxt (0 : Dev nD) = 1 ∧ nxt (1 : Dev nD) = 2 ∧ nxt (2 : Dev nD) = 3 ∧ nxt (3 : Dev nD) = 0 := by decide

/-- A sum over the devices, taken backwards around the ring and ending at any one of them; -/
theorem sum_prv (f : Dev nD → EReal) (c : Dev nD) : f (prv (prv (prv c))) + f (prv (prv c)) + f (prv c) + f c = ∑ i, f i := by
  obtain ⟨p0, p1, p2, p3⟩ := prv_vals
  rw [Fin.sum_univ_four (f := f)]
  rcases dev_cases c with rfl | rfl | rfl | rfl <;> simp only [p0, p1, p2, p3] <;> abel

/-- forwards. -/
theorem sum_nxt (f : Dev nD → EReal) (c : Dev nD) : f (nxt (nxt (nxt c))) + f (nxt (nxt c)) + f (nxt c) + f c = ∑ i, f i := by
  obtain ⟨p0, p1, p2, p3⟩ := nxt_vals
  rw [Fin.sum_univ_four (f := f)]
  rcases dev_cases c with rfl | rfl | rfl | rfl <;> simp only [p0, p1, p2, p3] <;> abel

/-- The left half of a device's reduced block is the sum over the devices there, -/
theorem redL_apply (c : Dev nD) (r : Fin 1024) (k : Fin 512) : redL m ρ c (ix2 r k) = total m ρ (row c r (lo k)) := by
  unfold total
  rw [← sum_prv (fun i => ts m ρ i (row c r (lo k))) c]
  simp only [redL, k0_pay10, usq, shapeCast_shapeCast, shapeCast_self]
  refine congrArg₂ (· + ·) ?_ (tld_lo m ρ c _ c (off5_at c) r k)
  rw [A2_apply, A1_apply, A0_apply, prv_four]

/-- and so is the right half. -/
theorem redR_apply (c : Dev nD) (r : Fin 1024) (k : Fin 512) :
    B2 m ρ (nxt c) (ix2 r k) + tld m ρ c (k0_off6 c) (k0_off6_inb c) (ix2 r k) = total m ρ (row c r (hi k)) := by
  unfold total
  rw [← sum_nxt (fun i => ts m ρ i (row c r (hi k))) c, B2_apply, B1_apply, B0_apply, nxt_four]
  exact congrArg (_ + ·) (tld_hi m ρ c _ c (off6_at c) r k)

/-- The reduced block: the two halves side by side. -/
theorem red_apply (c : Dev nD) (r k : Fin 1024) :
    k0_pay11 (redL m ρ c) (usq (B2 m ρ (nxt c))) (tld m ρ c (k0_off6 c) (k0_off6_inb c)) (ix2 r k) = total m ρ (row c r k) := by
  simp only [k0_pay11, usq, shapeCast_shapeCast, shapeCast_self]
  by_cases h : k.val < 512
  · refine (concatenate_pair_apply_left (s₁ := S1024x512) (s₂ := S1024x512) (t := S1024x1024) 1 _ _ _ (ix2 r k) rfl
      (ix2 (n0 := 1024) (n1 := 512) r ⟨k.val, h⟩) fun b => ?_).trans (redL_apply m ρ c r ⟨k.val, h⟩)
    match b with
    | ⟨0, _⟩ => rfl
    | ⟨1, _⟩ => rfl
  · have hk : k.val - 512 < 512 := by have := k.isLt; omega
    refine (concatenate_pair_apply_right (s₁ := S1024x512) (s₂ := S1024x512) (t := S1024x1024) 1 _ _ _ (ix2 r k) rfl rfl
      (ix2 (n0 := 1024) (n1 := 512) r ⟨k.val - 512, hk⟩) (fun b hb => ?_) ?_).trans
      ((redR_apply m ρ c r ⟨k.val - 512, hk⟩).trans (congrArg (fun k => total m ρ (row c r k)) (Fin.ext ?_)))
    · match b with
      | ⟨0, _⟩ => rfl
      | ⟨1, _⟩ => exact absurd rfl hb
    · show k.val - 512 + 512 = k.val; omega
    · show 512 + (k.val - 512) = k.val; omega

/-! ## The products -/

/-- The product of the sum and device `c`'s `W`, at an index of the result. -/
def prod (c : Dev nD) (y : S4096x1024.Idx) : EReal :=
  ∑ k : Fin 1024, total m ρ (ix2 (n0 := 4096) (n1 := 1024) (y 0) k) * (ws m ρ c (ix2 (n0 := 1024) (n1 := 1024) k (y 1)) : EReal)

/-- The left half of the product of a device's reduced block, -/
theorem resL_apply (c : Dev nD) (r : Fin 1024) (q : Fin 512) : resL m ρ c (ix2 r q) = prod m ρ c (row c r (lo q)) := by
  unfold resL k0_pay12
  refine (Ideal.matmul_plain_apply (M := 1024) (K := 1024) (N := 512) none _ _ _ r q).trans ?_
  rw [show (constant (F := Ideal) S1024x512 .f32 0x00000000#32) (ix2 r q) = 0 from Ideal.ofBits_zero_f32, zero_add]
  exact Finset.sum_congr rfl fun k _ => congrArg₂ (· * ·) (red_apply m ρ c r k) (wld_lo m ρ c k q)

/-- and the right half. -/
theorem resR_apply (c : Dev nD) (r : Fin 1024) (q : Fin 512) : resR m ρ c (ix2 r q) = prod m ρ c (row c r (hi q)) := by
  unfold resR k0_pay14
  refine (Ideal.matmul_plain_apply (M := 1024) (K := 1024) (N := 512) none _ _ _ r q).trans ?_
  rw [show (constant (F := Ideal) S1024x512 .f32 0x00000000#32) (ix2 r q) = 0 from Ideal.ofBits_zero_f32, zero_add]
  exact Finset.sum_congr rfl fun k _ => congrArg₂ (· * ·) (red_apply m ρ c r k) (wld_hi m ρ c k q)

/-- Narrowing changes nothing over the extended reals: what is sent on is the product. -/
theorem C0_eq (c : Dev nD) : C0 m ρ c = resL m ρ c := by
  simp only [C0, sq, k0_pay13, shapeCast_shapeCast]
  rfl
theorem D0_eq (c : Dev nD) : D0 m ρ c = resR m ρ c := by
  simp only [D0, sq, k0_pay15, shapeCast_shapeCast]
  rfl

/-! ## The result -/

/-- A piece at a quarter of the rows and the left half of the columns holds the product there, if its payload does, -/
theorem piece_lo (G : S4096x1024.Idx → EReal) {off : Fin 2 → ℕ} (h : ∀ a, off a + S1024x512.size a ≤ S4096x1024.size a) (d : Dev nD)
    (e : off = ![1024 * d.val, 0]) (X : S1024x512.Idx → EReal) (hX : ∀ r q, X (ix2 r q) = G (row d r (lo q))) (x : S1024x512.Idx) :
    X x = G ((Rect.unit (s := S4096x1024) off S1024x512.size h).emb x) := by
  obtain ⟨r, q, rfl⟩ : ∃ (r : Fin 1024) (q : Fin 512), x = ix2 r q := ⟨x 0, x 1, eq_ix2 x⟩
  exact (hX r q).trans (congrArg G (emb_lo h d e r q).symm)

/-- and so at the right half. -/
theorem piece_hi (G : S4096x1024.Idx → EReal) {off : Fin 2 → ℕ} (h : ∀ a, off a + S1024x512.size a ≤ S4096x1024.size a) (d : Dev nD)
    (e : off = ![1024 * d.val, 512]) (X : S1024x512.Idx → EReal) (hX : ∀ r q, X (ix2 r q) = G (row d r (hi q))) (x : S1024x512.Idx) :
    X x = G ((Rect.unit (s := S4096x1024) off S1024x512.size h).emb x) := by
  obtain ⟨r, q, rfl⟩ : ∃ (r : Fin 1024) (q : Fin 512), x = ix2 r q := ⟨x 0, x 1, eq_ix2 x⟩
  exact (hX r q).trans (congrArg G (emb_hi h d e r q).symm)

/-- A product that has travelled and is widened again, at an index. -/
theorem widen_apply (X : Vec Ideal S1024x512 .bf16) (r : Fin 1024) (q : Fin 512) : k0_pay16 (usq X) (ix2 r q) = X (ix2 r q) := by
  simp only [k0_pay16, usq, shapeCast_shapeCast, shapeCast_self]
  rfl

/-- If all the devices have one `W`, every device's result is the product everywhere. -/
theorem outAt_apply (c : Dev nD) (hW : ∀ d, ws m ρ d = ws m ρ c) (y : S4096x1024.Idx) : outAt m ρ c y = prod m ρ c y := by
  have hp : ∀ d, prod m ρ d = prod m ρ c := fun d => by unfold prod; rw [hW d]
  have hl : ∀ d r q, k0_pay16 (usq (C0 m ρ d)) (ix2 r q) = prod m ρ c (row d r (lo q)) := fun d r q => by rw [widen_apply, C0_eq, resL_apply, hp]
  have hr : ∀ d r q, k0_pay16 (usq (D0 m ρ d)) (ix2 r q) = prod m ρ c (row d r (hi q)) := fun d r q => by rw [widen_apply, D0_eq, resR_apply, hp]
  refine View.canon_apply_of_pieces (Val := Elt Ideal) (prod m ρ c) (outW m ρ c) (fun p hmem => ?_) y (outW_cover m ρ c y)
  simp only [outW, List.mem_cons, List.not_mem_nil, or_false] at hmem
  rcases hmem with rfl | rfl | rfl | rfl | rfl | rfl | rfl | rfl
  · exact piece_hi (prod m ρ c) (k0_off4_inb c 4) _ (off4_at3 c) _ (hr _)
  · exact piece_lo (prod m ρ c) (k0_off3_inb c 4) _ (off3_at3 c) _ (hl _)
  · exact piece_hi (prod m ρ c) (k0_off4_inb c 3) _ (off4_at2 c) _ (hr _)
  · exact piece_lo (prod m ρ c) (k0_off3_inb c 3) _ (off3_at2 c) _ (hl _)
  · exact piece_hi (prod m ρ c) (k0_off4_inb c 2) _ (off4_at1 c) _ (hr _)
  · exact piece_lo (prod m ρ c) (k0_off3_inb c 2) _ (off3_at1 c) _ (hl _)
  · exact piece_hi (prod m ρ c) (k0_off6_inb c) c (off6_at c) _ (resR_apply m ρ c)
  · exact piece_lo (prod m ρ c) (k0_off5_inb c) c (off5_at c) _ (resL_apply m ρ c)

/-! ## The array after the run -/

theorem start0_0 : ∀ a, win0_0.kind.off (win0_0.index (0 : Fin 1) a) (win0_0.size a) = 0 := by decide +kernel
theorem start0_1 : ∀ a, win0_1.kind.off (win0_1.index (0 : Fin 1) a) (win0_1.size a) = 0 := by decide +kernel

/-- The one block of a window is its whole array: `t`'s, -/
theorem ts_eq (c : Dev nD) (x : S4096x1024.Idx) : ts m ρ c x = m ((c : Thread nD τ).loc main_arg0) x := by
  refine congrArg (m ((c : Thread nD τ).loc main_arg0)) (?_ : (win0_0.blk (0 : Fin 1)).view.emb x = x)
  funext a; apply Fin.ext
  refine (ValueKit.view_emb_slice_whole_unit_val main_arg0 _ _ _ x a).trans ?_
  exact (congrArg (· + (x a).val) (start0_0 a)).trans (Nat.zero_add _)

/-- `W`'s. -/
theorem ws_eq (c : Dev nD) (x : S1024x1024.Idx) : ws m ρ c x = m ((c : Thread nD τ).loc main_arg1) x := by
  refine congrArg (m ((c : Thread nD τ).loc main_arg1)) (?_ : (win0_1.blk (0 : Fin 1)).view.emb x = x)
  funext a; apply Fin.ext
  refine (ValueKit.view_emb_slice_whole_unit_val main_arg1 _ _ _ x a).trans ?_
  exact (congrArg (· + (x a).val) (start0_1 a)).trans (Nat.zero_add _)

theorem whole_out : (cfg0.win (2 : Fin 3)).WholeAt t0_0 := by decide +kernel

/-- The result's one write-back is of the whole array: it ends as the body leaves it. -/
theorem arr_last (c : Dev nD) (dat : Pipeline.Dat τ (Elt Ideal) Unit ℕ UU ℕ cfg0 c) (X : S4096x1024.Idx → Elt Ideal .f32)
    (hX : dat.after (2 : Fin 3) t0_0 = X) : dat.arrAt (2 : Fin 3) cfg0.N = X := by
  funext i
  refine (dat.arrAt_emb_eq_after_last (2 : Fin 3) t0_0 whole_out i).trans ?_
  rw [hX]
  blk_simp
  rfl

theorem after_out (c : Dev nD) : (dats m ρ 0 c).after (2 : Fin 3) t0_0 = outAt m ρ c := by dsimp only [dats]

/-- A device's result array after the run is what its body leaves in the result's buffer. -/
theorem finalA_out (c : Dev nD) : finalA m ρ c (2 : Fin 3) = outAt m ρ c :=
  arr_last c (dats m ρ 0 c) (outAt m ρ c) (after_out m ρ c)

end Cert.KProof
end
-- ==== Proof.RefValue.lean ====
module

public import proofs.«01_k».proof.Proof.Gen.ReferenceIdeal.Run
public import Idealize.ShloMosaic.Lib.StackMember
public import Idealize.ShloMosaic.Lib.Pointwise.Reduce
public import Idealize.ShloMosaic.Lib.ValueIdx

@[expose] public section
/-! # What the reference computes

Over the extended reals, at row `R` and column `q`: the sum over `k` of the four blocks' rows `R` added at `k`, times `W` at
`(k, q)`. -/

noncomputable section

namespace Cert.RefProof

open Cert.ReferenceIdeal Cert.ReferenceIdeal.Gen

open Idealize.ShloMosaic
open scoped BigOperators

/-- Row `R` of the `i`-th of the four blocks of the whole array, column `k`. -/
abbrev rowAt (i : Fin 4) (R : Fin 4096) (k : Fin 1024) : S16384x1024.Idx :=
  ValueIdx.ix2 (n0 := 16384) (n1 := 1024) ⟨i.val * 4096 + R.val, by have := i.isLt; have := R.isLt; omega⟩ k

/-- The array cut into its four blocks, at an index. -/
theorem cut_apply (t : S16384x1024.Idx → EReal) (i : Fin 4) (R : Fin 4096) (k : Fin 1024) :
    shapeCast S4x4096x1024 t shapeCasts_S16384x1024_S4x4096x1024 (ix3 (n0 := 4) (n1 := 4096) (n2 := 1024) i R k) = t (rowAt i R k) := by
  refine shapeCast_apply (s := S16384x1024) (t := S4x4096x1024) t _ _ (rowAt i R k) ?_
  rw [Shape.rowMajor_val_two, Shape.rowMajor_val_three]
  show (i.val * 4096 + R.val) * 1024 + k.val = (i.val * 4096 + R.val) * 1024 + k.val
  rfl

/-- The reference's term, at an index. -/
theorem ref_apply (t : FVec Ideal S16384x1024 .bf16) (W : FVec Ideal S1024x1024 .bf16) (R : Fin 4096) (q : Fin 1024) :
    Host.dotGeneral dot_S4096x1024_S1024x1024_S4096x1024_1_0_0_1_n_n none
        (Host.reduceAdd (shapeCast _ (extf .f32 t bitsLt_bf16_f32) shapeCasts_S16384x1024_S4x4096x1024) (constant S_ .f32 0x00000000#32)
          reducesTo_S4x4096x1024_S4096x1024_d0 h_S_)
        (extf .f32 W bitsLt_bf16_f32) (ValueIdx.ix2 (n0 := 4096) (n1 := 1024) R q)
      = ∑ k : Fin 1024, (∑ i : Fin 4, (t (rowAt i R k) : EReal)) * (W (ValueIdx.ix2 (n0 := 1024) (n1 := 1024) k q) : EReal) := by
  refine (StackMember.dotGeneral_plain_apply (m := 4096) (k := 1024) (n := 1024) none _ _ R q).trans ?_
  refine Finset.sum_congr rfl fun k _ => congrArg (· * (W (ValueIdx.ix2 (n0 := 1024) (n1 := 1024) k q) : EReal)) ?_
  rw [Host.reduceAdd_apply]
  refine (Ideal.hostReduceAdd_r3_a0 (n0 := 4) (n1 := 4096) (n2 := 1024) _ _ _ _).trans ?_
  rw [show (constant (F := Ideal) S_ .f32 0x00000000#32) (Shape.Idx.first h_S_) = 0 from Ideal.ofBits_zero_f32, zero_add]
  exact Finset.sum_congr rfl fun i _ => cut_apply t i R k

/-- The whole of it, of the array `t` and `W`. -/
def out (t : S16384x1024.Idx → EReal) (W : S1024x1024.Idx → EReal) : S4096x1024.Idx → EReal := fun y =>
  ∑ k : Fin 1024, (∑ i : Fin 4, t (rowAt i (y 0) k)) * W (ValueIdx.ix2 (n0 := 1024) (n1 := 1024) k (y 1))

theorem ref_eq (t : FVec Ideal S16384x1024 .bf16) (W : FVec Ideal S1024x1024 .bf16) :
    Host.dotGeneral dot_S4096x1024_S1024x1024_S4096x1024_1_0_0_1_n_n none
        (Host.reduceAdd (shapeCast _ (extf .f32 t bitsLt_bf16_f32) shapeCasts_S16384x1024_S4x4096x1024) (constant S_ .f32 0x00000000#32)
          reducesTo_S4x4096x1024_S4096x1024_d0 h_S_)
        (extf .f32 W bitsLt_bf16_f32) = out t W := by
  funext y
  obtain ⟨R, q, rfl⟩ : ∃ (R : Fin 4096) (q : Fin 1024), y = ValueIdx.ix2 R q := ⟨y 0, y 1, ValueIdx.eq_ix2 y⟩
  exact ref_apply t W R q

end Cert.RefProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem

/-- The two printed kernels have the same text: their label tables are equal before the windows' pipeline is added, -/
theorem defs₀_same {F : FTy → Type} [FloatOps F] : Cert.Kernel.defs₀ (F := F) = Cert.KernelIdeal.defs₀ (F := F) := by
  refine congrArg Defs.onTc ?_
  funext l _
  rcases l with ⟨_ | _, h⟩
  · rfl
  · exact absurd h (Nat.not_lt.2 (Nat.le_add_left _ _))

/-- and after it. -/
theorem defs_same {F : FTy → Type} [FloatOps F] : Cert.Kernel.defs (F := F) = Cert.KernelIdeal.defs (F := F) :=
  congrArg (Pipeline.defs Cert.KernelIdeal.pcfgs) defs₀_same

/-- The kernel as printed, over float words: it ends, its arguments are unchanged and every counter is zero. -/
theorem frame_kernel : Cert.quiescent_Kernel := fun m ρ _ => by
  have h := Cert.KProof.run_frame (F := Bits) m ρ
  rw [← defs_same] at h
  exact h

/-- The same over the extended reals. -/
theorem frame_ideal : Cert.quiescent_KernelIdeal := fun m ρ _ => Cert.KProof.run_frame (F := Ideal) m ρ

/-- The reference on its one device: it declares no semaphore, so that every counter is zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section Algebraic

open Cert.KernelIdeal

variable (m : (ℓ : Loc nD τ sig) → Buf (Elt Ideal) ℓ) (g : Dev nD → PrngReg)

/-- If device `i` starts with the `i`-th block of `t` and every device with `W`, each device's result is the reference's. -/
theorem result_eq (t : Cert.ReferenceIdeal.S16384x1024.Idx → EReal) (W : Cert.ReferenceIdeal.S1024x1024.Idx → EReal)
    (ht : ∀ i : Dev nD, m ((i.tc : Thread nD τ).loc main_arg0) = Layout.block ⟨2, ![4096, 1024]⟩ ⟨2, ![16384, 1024]⟩ 0 4 i t)
    (hW : ∀ i : Dev nD, m ((i.tc : Thread nD τ).loc main_arg1) = W) (c : Dev nD) :
    Cert.KProof.finalA m g c (2 : Fin 3) = Cert.RefProof.out t W := by
  have hw : ∀ d, Cert.KProof.ws m g d = W := fun d => funext fun x => (Cert.KProof.ws_eq m g d x).trans (congrFun (hW d) x)
  refine (Cert.KProof.finalA_out m g c).trans (funext fun y => ?_)
  refine (Cert.KProof.outAt_apply m g c (fun d => (hw d).trans (hw c).symm) y).trans ?_
  have e : ∀ k : Fin 1024, (Cert.KProof.ws m g c (ValueIdx.ix2 (n0 := 1024) (n1 := 1024) k (y 1)) : EReal) = W (ValueIdx.ix2 k (y 1)) :=
    fun k => congrFun (hw c) _
  show (Cert.KProof.prod m g c y : EReal) = Cert.RefProof.out t W y
  unfold Cert.KProof.prod Cert.RefProof.out
  simp only [e]
  refine Finset.sum_congr rfl fun k _ => congrArg (· * (W (ValueIdx.ix2 k (y 1)) : EReal)) ?_
  refine Finset.sum_congr rfl fun i _ => (Cert.KProof.ts_eq m g i _).trans ((congrFun (ht i) _).trans (congrArg t (funext fun a => Fin.ext ?_)))
  match a with
  | ⟨0, _⟩ => rfl
  | ⟨1, _⟩ => rfl

end Algebraic

/-- Over the extended reals the kernel's devices all end with the reference's result. -/
theorem algebraic : Cert.algebraic_KernelIdeal_ReferenceIdeal := fun m g m' g' _ h =>
  ⟨Cert.RefProof.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c =>
      ⟨(hr.1 c (2 : Fin 3)).trans (result_eq m g _ _ (fun i => (h i).1) (fun i => (h i).2) c),
        (hr.1 c (0 : Fin 3)).trans (Cert.KProof.finalA_t m g c), (hr.1 c (1 : Fin 3)).trans (Cert.KProof.finalA_W m g c)⟩)
      (Cert.KProof.run_main m g),
    (θ_run Cert.ReferenceIdeal.defs _ _).mono (fun _ hr => ⟨(hr 0).1.trans (Cert.RefProof.ref_eq _ _), (hr 0).2⟩)
      (Cert.ReferenceIdeal.Value.run (F := Ideal) m' g')⟩

/-- The claims together, after the facts that the programs state. -/
theorem claim : Cert.Claim :=
  ⟨Cert.Kernel.Gen.facts, Cert.KernelIdeal.Gen.facts, Cert.ReferenceIdeal.Gen.facts, frame_kernel, frame_ideal, frame_reference, trivial, algebraic⟩

end Cert.Proof

end
